-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_routed [hPre_routed : Cert.Pre_routed.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_routed [hExpertsReferenceIdeal : Cert.ExpertsReferenceIdeal.Facts] [hPre_routed : Cert.Pre_routed.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_routed m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v38) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)) →
    ∃ (v0 : (c : Dev Cert.ProjectionIdeal.nD) → Buf (Elt Ideal) ((c.tc : Thread Cert.ProjectionIdeal.nD Cert.ProjectionIdeal.τ).loc Cert.ProjectionIdeal.main_v15)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v15) = v0 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v20) = v0 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hProjection : Cert.Projection.Facts) (hProjectionIdeal : Cert.ProjectionIdeal.Facts) (hProjectionReferenceIdeal : Cert.ProjectionReferenceIdeal.Facts) (hPre_routed : Cert.Pre_routed.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_routed := hPre_routed)
    ∧ quiescent_ExpertsIdeal (hExpertsIdeal := hExpertsIdeal) (hPre_routed := hPre_routed)
    ∧ quiescent_ExpertsReferenceIdeal (hExpertsReferenceIdeal := hExpertsReferenceIdeal)
    ∧ quiescent_ExpertsReferenceIdeal_pre_routed (hExpertsReferenceIdeal := hExpertsReferenceIdeal) (hPre_routed := hPre_routed)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_ExpertsReferenceIdeal (hExpertsIdeal := hExpertsIdeal) (hExpertsReferenceIdeal := hExpertsReferenceIdeal) (hPre_routed := hPre_routed)
    ∧ preserves_Projection_ProjectionIdeal
    ∧ algebraic_ProjectionIdeal_ProjectionReferenceIdeal (hProjectionIdeal := hProjectionIdeal) (hProjectionReferenceIdeal := hProjectionReferenceIdeal)
-- ==== Pre_routed.lean ====
abbrev S1179648x128 : Shape := ⟨2, ![1179648, 128]⟩
abbrev S288 : Shape := ⟨1, ![288]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  shapeCasts_S1_S_ : S1.ShapeCasts S_

variable [Facts]

def fn {F : FTy → Type} [FloatOps F] (main_arg0 : FVec F S1179648x128 .f32) (main_arg1 : IVec S288 32) (main_arg2 : IVec S1 32) (main_arg3 : FVec F S32x1024x2048 .f32) (main_arg4 : FVec F S32x1x2048 .f32) (main_arg5 : FVec F S32x1024x1024 .f32) (main_arg6 : FVec F S32x1x1024 .f32) : IVec S_ 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_v6 : IVec S_ 32 := shapeCast S_ main_arg2 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S8x4096x512 : Shape := ⟨3, ![8, 4096, 512]⟩
abbrev S1x512 : Shape := ⟨2, ![1, 512]⟩
abbrev S_ : Shape := ⟨0, ![]⟩
abbrev S32768x1152 : Shape := ⟨2, ![32768, 1152]⟩
abbrev S32768x512 : Shape := ⟨2, ![32768, 512]⟩
abbrev S32768x3200 : Shape := ⟨2, ![32768, 3200]⟩
abbrev S64 : Shape := ⟨1, ![64]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S512 : Shape := ⟨1, ![512]⟩
abbrev S128x2048 : Shape := ⟨2, ![128, 2048]⟩
abbrev S128x512 : Shape := ⟨2, ![128, 512]⟩

abbrev nBuf : Space → Nat
  | .hbm => 105
  | .vmem => 14
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S1x512, .f32⟩
  | .hbm, ⟨5, _⟩ => ⟨S_, .f32⟩
  | .hbm, ⟨6, _⟩ => ⟨S32768x1152, .f32⟩
  | .hbm, ⟨7, _⟩ => ⟨S32768x512, .f32⟩
  | .hbm, ⟨8, _⟩ => ⟨S32768x512, .f32⟩
  | .hbm, ⟨9, _⟩ => ⟨S32768x512, .f32⟩
  | .hbm, ⟨10, _⟩ => ⟨S32768x512, .f32⟩
  | .hbm, ⟨11, _⟩ => ⟨S32768x3200, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S4096, .f32⟩
  | .hbm, ⟨29, _⟩ => ⟨S4096x1, .f32⟩
  | .hbm, ⟨30, _⟩ => ⟨S1x64, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S4096x64, .f32⟩
  | .hbm, ⟨36, _⟩ => ⟨S4096x128, .f32⟩
  | .hbm, ⟨37, _⟩ => ⟨S4096x64, .f32⟩
  | .hbm, ⟨38, _⟩ => ⟨S4096x128, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S128, .f32⟩
  | .hbm, ⟨51, _⟩ => ⟨S128x1, .f32⟩
  | .hbm, ⟨52, _⟩ => ⟨S1x128, .f32⟩
  | .hbm, ⟨53, _⟩ => ⟨S128x128, .f32⟩
  | .hbm, ⟨54, _⟩ => ⟨S128x128, .f32⟩
  | .hbm, ⟨55, _⟩ => ⟨S128x128, .f32⟩
  | .hbm, ⟨56, _⟩ => ⟨S1x128x128, .f32⟩
  | .hbm, ⟨57, _⟩ => ⟨S_, .f32⟩
  | .hbm, ⟨58, _⟩ => ⟨S1x128x128, .f32⟩
  | .hbm, ⟨59, _⟩ => ⟨S1x128x128, .i1⟩
  | .hbm, ⟨60, _⟩ => ⟨S_, .f32⟩
  | .hbm, ⟨61, _⟩ => ⟨S128x128, .f32⟩
  | .hbm, ⟨62, _⟩ => ⟨S128x128, .f32⟩
  | .hbm, ⟨63, _⟩ => ⟨S1x128x128, .f32⟩
  | .hbm, ⟨64, _⟩ => ⟨S4x1x1, .f32⟩
  | .hbm, ⟨65, _⟩ => ⟨S4x128x128, .f32⟩
  | .hbm, ⟨66, _⟩ => ⟨S4x128x128, .f32⟩
  | .hbm, ⟨67, _⟩ => ⟨S4x128x128, .f32⟩
  | .hbm, ⟨68, _⟩ => ⟨S4x128x128, .f32⟩
  | .hbm, ⟨69, _⟩ => ⟨S_, .f32⟩
  | .hbm, ⟨70, _⟩ => ⟨S_, .f32⟩
  | .hbm, ⟨71, _⟩ => ⟨S4x128x128, .i1⟩
  | .hbm, ⟨72, _⟩ => ⟨S4x128x128, .f32⟩
  | .hbm, ⟨73, _⟩ => ⟨S4x128x128, .f32⟩
  | .hbm, ⟨74, _⟩ => ⟨S1x128, .f32⟩
  | .hbm, ⟨75, _⟩ => ⟨S_, .f32⟩
  | .hbm, ⟨76, _⟩ => ⟨S1x128, .f32⟩
  | .hbm, ⟨77, _⟩ => ⟨S1x128, .f32⟩
  | .hbm, ⟨78, _⟩ => ⟨S4x1, .f32⟩
  | .hbm, ⟨79, _⟩ => ⟨S4x128, .f32⟩
  | .hbm, ⟨80, _⟩ => ⟨S4x128, .f32⟩
  | .hbm, ⟨81, _⟩ => ⟨S4x128, .f32⟩
  | .hbm, ⟨82, _⟩ => ⟨S4x128, .f32⟩
  | .hbm, ⟨83, _⟩ => ⟨S1x128, .f32⟩
  | .hbm, ⟨84, _⟩ => ⟨S_, .f32⟩
  | .hbm, ⟨85, _⟩ => ⟨S1x128, .f32⟩
  | .hbm, ⟨86, _⟩ => ⟨S1x128, .f32⟩
  | .hbm, ⟨87, _⟩ => ⟨S4x1, .f32⟩
  | .hbm, ⟨88, _⟩ => ⟨S4x128, .f32⟩
  | .hbm, ⟨89, _⟩ => ⟨S4x128, .f32⟩
  | .hbm, ⟨90, _⟩ => ⟨S4x128, .f32⟩
  | .hbm, ⟨91, _⟩ => ⟨S4x128, .f32⟩
  | .hbm, ⟨92, _⟩ => ⟨S_, .f32⟩
  | .hbm, ⟨93, _⟩ => ⟨S4, .f32⟩
  | .hbm, ⟨94, _⟩ => ⟨S4, .f32⟩
  | .hbm, ⟨95, _⟩ => ⟨S4, .f32⟩
  | .hbm, ⟨96, _⟩ => ⟨S4x128x1, .f32⟩
  | .hbm, ⟨97, _⟩ => ⟨S4x128x128, .f32⟩
  | .hbm, ⟨98, _⟩ => ⟨S4x128x1, .f32⟩
  | .hbm, ⟨99, _⟩ => ⟨S4x128x128, .f32⟩
  | .hbm, ⟨100, _⟩ => ⟨S4x1x1, .f32⟩
  | .hbm, ⟨101, _⟩ => ⟨S4x128x128, .f32⟩
  | .hbm, ⟨102, _⟩ => ⟨S512, .f32⟩
  | .hbm, ⟨103, _⟩ => ⟨S1x512, .f32⟩
  | .hbm, ⟨104, _⟩ => ⟨S32768x512, .f32⟩
  | .local _ .vmem, ⟨0, _⟩ => ⟨S128x2048, .f32⟩
  | .local _ .vmem, ⟨1, _⟩ => ⟨S128x2048, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S4x128x128, .f32⟩
  | .local _ .vmem, ⟨7, _⟩ => ⟨S4x128x128, .f32⟩
  | .local _ .vmem, ⟨8, _⟩ => ⟨S4x128x128, .f32⟩
  | .local _ .vmem, ⟨9, _⟩ => ⟨S4x128x128, .f32⟩
  | .local _ .vmem, ⟨10, _⟩ => ⟨S1x512, .f32⟩
  | .local _ .vmem, ⟨11, _⟩ => ⟨S128x512, .f32⟩
  | .local _ .vmem, ⟨12, _⟩ => ⟨S128x512, .f32⟩
  | .local _ .vmem, ⟨13, _⟩ => ⟨S4x128x128, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x4096x512 : Shape := ⟨3, ![8, 4096, 512]⟩
abbrev S1x512 : Shape := ⟨2, ![1, 512]⟩
abbrev S8x4096x4x128 : Shape := ⟨4, ![8, 4096, 4, 128]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S8x4096x4x64 : Shape := ⟨4, ![8, 4096, 4, 64]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S1x4x128x1 : Shape := ⟨4, ![1, 4, 128, 1]⟩
abbrev S1x4x1x1 : Shape := ⟨4, ![1, 4, 1, 1]⟩
abbrev S8x4x128x128 : Shape := ⟨4, ![8, 4, 128, 128]⟩
abbrev S8x32x128x4x128 : Shape := ⟨5, ![8, 32, 128, 4, 128]⟩
abbrev S32x8x4x128x128 : Shape := ⟨5, ![32, 8, 4, 128, 128]⟩
abbrev S1x8x4x128x128 : Shape := ⟨5, ![1, 8, 4, 128, 128]⟩
abbrev S1x4x128x128 : Shape := ⟨4, ![1, 4, 128, 128]⟩
abbrev S8x4096x4 : Shape := ⟨3, ![8, 4096, 4]⟩
abbrev S8x4096x4x1 : Shape := ⟨4, ![8, 4096, 4, 1]⟩
abbrev S512 : Shape := ⟨1, ![512]⟩
abbrev S1x1x512 : Shape := ⟨3, ![1, 1, 512]⟩
abbrev S32768x512 : Shape := ⟨2, ![32768, 512]⟩

abbrev nBuf : Space → Nat
  | .hbm => 254
  | .vmem => 0
  | .smem => 0
  | _ => 0

abbrev hbmTy0_0 (i : Nat) : BufTy := match i % 128 with
  | 0 => ⟨S8x4096x512, .f32⟩
  | 1 => ⟨S8x4096x512, .f32⟩
  | 2 => ⟨S8x4096x512, .f32⟩
  | 3 => ⟨S8x4096x512, .f32⟩
  | 4 => ⟨S1x512, .f32⟩
  | 5 => ⟨S8x4096x4x128, .f32⟩
  | 6 => ⟨S64, .f32⟩
  | 7 => ⟨S_, .f32⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S_, .f32⟩
  | 20 => ⟨S64, .f32⟩
  | 21 => ⟨S64, .f32⟩
  | 22 => ⟨S4096, .f32⟩
  | 23 => ⟨S4096x1, .f32⟩
  | 24 => ⟨S1x64, .f32⟩
  | 25 => ⟨S4096x64, .f32⟩
  | 26 => ⟨S4096x64, .f32⟩
  | 27 => ⟨S4096x64, .f32⟩
  | 28 => ⟨S4096x64, .f32⟩
  | 29 => ⟨S1x4096x1x64, .f32⟩
  | 30 => ⟨S4096x64, .f32⟩
  | 31 => ⟨S1x4096x1x64, .f32⟩
  | 32 => ⟨S8x4096x4x64, .f32⟩
  | 33 => ⟨S8x4096x4x64, .f32⟩
  | 34 => ⟨S8x4096x4x64, .f32⟩
  | 35 => ⟨S8x4096x4x64, .f32⟩
  | 36 => ⟨S8x4096x4x64, .f32⟩
  | 37 => ⟨S8x4096x4x64, .f32⟩
  | 38 => ⟨S8x4096x4x64, .f32⟩
  | 39 => ⟨S8x4096x4x64, .f32⟩
  | 40 => ⟨S8x4096x4x64, .f32⟩
  | 41 => ⟨S8x4096x4x64, .f32⟩
  | 42 => ⟨S8x4096x4x64, .f32⟩
  | 43 => ⟨S8x4096x4x64, .f32⟩
  | 44 => ⟨S8x4096x4x128, .f32⟩
  | 45 => ⟨S8x4096x4x128, .f32⟩
  | 46 => ⟨S64, .f32⟩
  | 47 => ⟨S_, .f32⟩
  | 48 => ⟨S64, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S4096, .f32⟩
  | 63 => ⟨S4096x1, .f32⟩
  | 64 => ⟨S1x64, .f32⟩
  | 65 => ⟨S4096x64, .f32⟩
  | 66 => ⟨S4096x64, .f32⟩
  | 67 => ⟨S4096x64, .f32⟩
  | 68 => ⟨S4096x64, .f32⟩
  | 69 => ⟨S1x4096x1x64, .f32⟩
  | 70 => ⟨S4096x64, .f32⟩
  | 71 => ⟨S1x4096x1x64, .f32⟩
  | 72 => ⟨S8x4096x4x64, .f32⟩
  | 73 => ⟨S8x4096x4x64, .f32⟩
  | 74 => ⟨S8x4096x4x64, .f32⟩
  | 75 => ⟨S8x4096x4x64, .f32⟩
  | 76 => ⟨S8x4096x4x64, .f32⟩
  | 77 => ⟨S8x4096x4x64, .f32⟩
  | 78 => ⟨S8x4096x4x64, .f32⟩
  | 79 => ⟨S8x4096x4x64, .f32⟩
  | 80 => ⟨S8x4096x4x64, .f32⟩
  | 81 => ⟨S8x4096x4x64, .f32⟩
  | 82 => ⟨S8x4096x4x64, .f32⟩
  | 83 => ⟨S8x4096x4x64, .f32⟩
  | 84 => ⟨S8x4096x4x128, .f32⟩
  | 85 => ⟨S_, .f32⟩
  | 86 => ⟨S8x4096x4x128, .f32⟩
  | 87 => ⟨S8x4096x4x128, .f32⟩
  | 88 => ⟨S8x4096x4x128, .f32⟩
  | 89 => ⟨S4, .f32⟩
  | 90 => ⟨S_, .f32⟩
  | 91 => ⟨S4, .f32⟩
  | 92 => ⟨S4, .f32⟩
  | 93 => ⟨S_, .f32⟩
  | 94 => ⟨S4, .f32⟩
  | 95 => ⟨S4, .f32⟩
  | 96 => ⟨S_, .f32⟩
  | 97 => ⟨S4, .f32⟩
  | 98 => ⟨S4, .f32⟩
  | 99 => ⟨S4, .f32⟩
  | 100 => ⟨S128, .f32⟩
  | 101 => ⟨S128x1, .f32⟩
  | 102 => ⟨S1x128, .f32⟩
  | 103 => ⟨S128x128, .f32⟩
  | 104 => ⟨S128x128, .f32⟩
  | 105 => ⟨S128x128, .f32⟩
  | 106 => ⟨S1x128x128, .f32⟩
  | 107 => ⟨S_, .f32⟩
  | 108 => ⟨S1x128x128, .f32⟩
  | 109 => ⟨S1x128x128, .i1⟩
  | 110 => ⟨S_, .f32⟩
  | 111 => ⟨S128x128, .f32⟩
  | 112 => ⟨S128x128, .f32⟩
  | 113 => ⟨S1x128x128, .f32⟩
  | 114 => ⟨S4x1x1, .f32⟩
  | 115 => ⟨S4x128x128, .f32⟩
  | 116 => ⟨S4x128x128, .f32⟩
  | 117 => ⟨S4x128x128, .f32⟩
  | 118 => ⟨S4x128x128, .f32⟩
  | 119 => ⟨S_, .f32⟩
  | 120 => ⟨S_, .f32⟩
  | 121 => ⟨S4x128x128, .i1⟩
  | 122 => ⟨S4x128x128, .f32⟩
  | 123 => ⟨S4x128x128, .f32⟩
  | 124 => ⟨S1x128, .f32⟩
  | 125 => ⟨S_, .f32⟩
  | 126 => ⟨S1x128, .f32⟩
  | 127 => ⟨S1x128, .f32⟩
  | _ => ⟨S8x4096x512, .f32⟩

abbrev hbmTy0_1 (i : Nat) : BufTy := match i % 128 with
  | 0 => ⟨S4x1, .f32⟩
  | 1 => ⟨S4x128, .f32⟩
  | 2 => ⟨S4x128, .f32⟩
  | 3 => ⟨S4x128, .f32⟩
  | 4 => ⟨S4x128, .f32⟩
  | 5 => ⟨S1x4x128x1, .f32⟩
  | 6 => ⟨S1x128, .f32⟩
  | 7 => ⟨S_, .f32⟩
  | 8 => ⟨S1x128, .f32⟩
  | 9 => ⟨S1x128, .f32⟩
  | 10 => ⟨S4x1, .f32⟩
  | 11 => ⟨S4x128, .f32⟩
  | 12 => ⟨S4x128, .f32⟩
  | 13 => ⟨S4x128, .f32⟩
  | 14 => ⟨S4x128, .f32⟩
  | 15 => ⟨S1x4x128x1, .f32⟩
  | 16 => ⟨S_, .f32⟩
  | 17 => ⟨S4, .f32⟩
  | 18 => ⟨S4, .f32⟩
  | 19 => ⟨S4, .f32⟩
  | 20 => ⟨S1x4x1x1, .f32⟩
  | 21 => ⟨S_, .f32⟩
  | 22 => ⟨S8x4x128x128, .f32⟩
  | 23 => ⟨S8x32x128x4x128, .f32⟩
  | 24 => ⟨S32x8x4x128x128, .f32⟩
  | 25 => ⟨S8x32x128x4x128, .f32⟩
  | 26 => ⟨S32x8x4x128x128, .f32⟩
  | 27 => ⟨S8x32x128x4x128, .f32⟩
  | 28 => ⟨S32x8x4x128x128, .f32⟩
  | 29 => ⟨S_, .f32⟩
  | 30 => ⟨S32x8x4x128x128, .f32⟩
  | 31 => ⟨S_, .i32⟩
  | 32 => ⟨S32x8x4x128x128, .f32⟩
  | 33 => ⟨S32x8x4x128x128, .f32⟩
  | 34 => ⟨S32x8x4x128x128, .f32⟩
  | 35 => ⟨S4x128x128, .f32⟩
  | 36 => ⟨S1x4x128x1, .f32⟩
  | 37 => ⟨S1x4x1x1, .f32⟩
  | 38 => ⟨S1x4x128x1, .f32⟩
  | 39 => ⟨S_, .i32⟩
  | 40 => ⟨S8x4x128x128, .f32⟩
  | 41 => ⟨S32x8x4x128x128, .f32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S1x8x4x128x128, .f32⟩
  | 49 => ⟨S8x4x128x128, .f32⟩
  | 50 => ⟨S_, .i32⟩
  | 51 => ⟨S_, .i32⟩
  | 52 => ⟨S_, .i32⟩
  | 53 => ⟨S_, .i32⟩
  | 54 => ⟨S1x8x4x128x128, .f32⟩
  | 55 => ⟨S8x4x128x128, .f32⟩
  | 56 => ⟨S_, .i32⟩
  | 57 => ⟨S_, .i32⟩
  | 58 => ⟨S_, .i32⟩
  | 59 => ⟨S_, .i32⟩
  | 60 => ⟨S1x8x4x128x128, .f32⟩
  | 61 => ⟨S8x4x128x128, .f32⟩
  | 62 => ⟨S8x4x128x128, .f32⟩
  | 63 => ⟨S1x4x128x128, .f32⟩
  | 64 => ⟨S8x4x128x128, .f32⟩
  | 65 => ⟨S8x4x128x128, .f32⟩
  | 66 => ⟨S8x4x128x128, .f32⟩
  | 67 => ⟨S8x4x128x128, .f32⟩
  | 68 => ⟨S8x4x128x128, .f32⟩
  | 69 => ⟨S8x4x128x128, .f32⟩
  | 70 => ⟨S8x4x128x128, .f32⟩
  | 71 => ⟨S8x4x128x128, .f32⟩
  | 72 => ⟨S8x4x128x128, .f32⟩
  | 73 => ⟨S8x4x128x128, .f32⟩
  | 74 => ⟨S8x4x128x128, .f32⟩
  | 75 => ⟨S8x4x128x128, .f32⟩
  | 76 => ⟨S8x4x128x128, .f32⟩
  | 77 => ⟨S1x8x4x128x128, .f32⟩
  | 78 => ⟨S_, .i32⟩
  | 79 => ⟨S_, .i32⟩
  | 80 => ⟨S_, .i32⟩
  | 81 => ⟨S_, .i32⟩
  | 82 => ⟨S32x8x4x128x128, .f32⟩
  | 83 => ⟨S_, .i32⟩
  | 84 => ⟨S_, .i32⟩
  | 85 => ⟨S8x32x128x4x128, .f32⟩
  | 86 => ⟨S8x4096x4x128, .f32⟩
  | 87 => ⟨S_, .f32⟩
  | 88 => ⟨S8x4096x4, .f32⟩
  | 89 => ⟨S8x4096x4x1, .f32⟩
  | 90 => ⟨S_, .f32⟩
  | 91 => ⟨S8x4096x4x1, .f32⟩
  | 92 => ⟨S8x4096x4x1, .f32⟩
  | 93 => ⟨S8x4096x4x128, .f32⟩
  | 94 => ⟨S8x4096x4x128, .f32⟩
  | 95 => ⟨S8x4096x4x128, .f32⟩
  | 96 => ⟨S_, .f32⟩
  | 97 => ⟨S8x4096x4, .f32⟩
  | 98 => ⟨S8x4096x4x1, .f32⟩
  | 99 => ⟨S_, .f32⟩
  | 100 => ⟨S8x4096x4x1, .f32⟩
  | 101 => ⟨S8x4096x4x1, .f32⟩
  | 102 => ⟨S8x4096x4x128, .f32⟩
  | 103 => ⟨S8x4096x4x128, .f32⟩
  | 104 => ⟨S_, .f32⟩
  | 105 => ⟨S8x4096x4x1, .f32⟩
  | 106 => ⟨S8x4096x4x1, .f32⟩
  | 107 => ⟨S8x4096x4x1, .f32⟩
  | 108 => ⟨S8x4096x4x128, .f32⟩
  | 109 => ⟨S8x4096x4x128, .f32⟩
  | 110 => ⟨S8x4096x512, .f32⟩
  | 111 => ⟨S512, .f32⟩
  | 112 => ⟨S1x1x512, .f32⟩
  | 113 => ⟨S8x4096x512, .f32⟩
  | 114 => ⟨S8x4096x512, .f32⟩
  | 115 => ⟨S8x4096x512, .f32⟩
  | 116 => ⟨S8x4096x512, .f32⟩
  | 117 => ⟨S_, .f32⟩
  | 118 => ⟨S8x4096x512, .f32⟩
  | 119 => ⟨S8x4096x512, .f32⟩
  | 120 => ⟨S_, .f32⟩
  | 121 => ⟨S8x4096x512, .f32⟩
  | 122 => ⟨S8x4096x512, .f32⟩
  | 123 => ⟨S8x4096x512, .f32⟩
  | 124 => ⟨S8x4096x512, .f32⟩
  | 125 => ⟨S32768x512, .f32⟩
  | _ => ⟨S8x4096x512, .f32⟩

abbrev hbmTy (i : Nat) : BufTy := match i / 128 with
  | 0 => hbmTy0_0 i
  | 1 => hbmTy0_1 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_9 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_10 : Ref sig .tc := ⟨.hbm, 90, rfl⟩
abbrev main_v74 : Ref sig .tc := ⟨.hbm, 91, rfl⟩
abbrev main_v75 : Ref sig .tc := ⟨.hbm, 92, rfl⟩
abbrev main_cst_11 : Ref sig .tc := ⟨.hbm, 93, rfl⟩
abbrev main_v76 : Ref sig .tc := ⟨.hbm, 94, rfl⟩
abbrev main_v77 : Ref sig .tc := ⟨.hbm, 95, rfl⟩
abbrev main_cst_12 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_13 : Ref sig .tc := ⟨.hbm, 107, rfl⟩
abbrev main_v88 : Ref sig .tc := ⟨.hbm, 108, rfl⟩
abbrev main_v89 : Ref sig .tc := ⟨.hbm, 109, rfl⟩
abbrev main_cst_14 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_cst_15 : Ref sig .tc := ⟨.hbm, 119, rfl⟩
abbrev main_call0_v0 : Ref sig .tc := ⟨.hbm, 120, rfl⟩
abbrev main_call0_v1 : Ref sig .tc := ⟨.hbm, 121, rfl⟩
abbrev main_call0_v2 : Ref sig .tc := ⟨.hbm, 122, rfl⟩
abbrev main_v98 : Ref sig .tc := ⟨.hbm, 123, rfl⟩
abbrev main_v99 : Ref sig .tc := ⟨.hbm, 124, rfl⟩
abbrev main_cst_16 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_17 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_cst_18 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_cst_19 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_20 : Ref sig .tc := ⟨.hbm, 157, rfl⟩
abbrev main_v128 : Ref sig .tc := ⟨.hbm, 158, rfl⟩
abbrev main_c : Ref sig .tc := ⟨.hbm, 159, rfl⟩
abbrev main_v129_0 : Ref sig .tc := ⟨.hbm, 160, rfl⟩
abbrev main_v129_1 : Ref sig .tc := ⟨.hbm, 161, rfl⟩
abbrev main_v129_2 : Ref sig .tc := ⟨.hbm, 162, rfl⟩
abbrev main_v129_3 : Ref sig .tc := ⟨.hbm, 163, rfl⟩
abbrev main_v129_4 : Ref sig .tc := ⟨.hbm, 164, rfl⟩
abbrev main_v129_5 : Ref sig .tc := ⟨.hbm, 165, rfl⟩
abbrev main_v129_6 : Ref sig .tc := ⟨.hbm, 166, rfl⟩
abbrev main_v129_7 : Ref sig .tc := ⟨.hbm, 167, rfl⟩
abbrev main_v129_8 : Ref sig .tc := ⟨.hbm, 168, rfl⟩
abbrev main_v129_9 : Ref sig .tc := ⟨.hbm, 169, rfl⟩
abbrev main_while0c_c_35 : Ref sig .tc := ⟨.hbm, 170, rfl⟩
abbrev main_while0c_v158 : Ref sig .tc := ⟨.hbm, 171, rfl⟩
abbrev main_while0b_call1_c : Ref sig .tc := ⟨.hbm, 172, rfl⟩
abbrev main_while0b_call1_c_0 : Ref sig .tc := ⟨.hbm, 173, rfl⟩
abbrev main_while0b_call1_c_1 : Ref sig .tc := ⟨.hbm, 174, rfl⟩
abbrev main_while0b_call1_c_2 : Ref sig .tc := ⟨.hbm, 175, rfl⟩
abbrev main_while0b_call1_v0 : Ref sig .tc := ⟨.hbm, 176, rfl⟩
abbrev main_while0b_v158 : Ref sig .tc := ⟨.hbm, 177, rfl⟩
abbrev main_while0b_call2_c : Ref sig .tc := ⟨.hbm, 178, rfl⟩
abbrev main_while0b_call2_c_0 : Ref sig .tc := ⟨.hbm, 179, rfl⟩
abbrev main_while0b_call2_c_1 : Ref sig .tc := ⟨.hbm, 180, rfl⟩
abbrev main_while0b_call2_c_2 : Ref sig .tc := ⟨.hbm, 181, rfl⟩
abbrev main_while0b_call2_v0 : Ref sig .tc := ⟨.hbm, 182, rfl⟩
abbrev main_while0b_v159 : Ref sig .tc := ⟨.hbm, 183, rfl⟩
abbrev main_while0b_call3_c : Ref sig .tc := ⟨.hbm, 184, rfl⟩
abbrev main_while0b_call3_c_0 : Ref sig .tc := ⟨.hbm, 185, rfl⟩
abbrev main_while0b_call3_c_1 : Ref sig .tc := ⟨.hbm, 186, rfl⟩
abbrev main_while0b_call3_c_2 : Ref sig .tc := ⟨.hbm, 187, rfl⟩
abbrev main_while0b_call3_v0 : Ref sig .tc := ⟨.hbm, 188, rfl⟩
abbrev main_while0b_v160 : Ref sig .tc := ⟨.hbm, 189, rfl⟩
abbrev main_while0b_v161 : Ref sig .tc := ⟨.hbm, 190, rfl⟩
abbrev main_while0b_v162 : Ref sig .tc := ⟨.hbm, 191, rfl⟩
abbrev main_while0b_v163 : Ref sig .tc := ⟨.hbm, 192, rfl⟩
abbrev main_while0b_v164 : Ref sig .tc := ⟨.hbm, 193, rfl⟩
abbrev main_while0b_v165 : Ref sig .tc := ⟨.hbm, 194, rfl⟩
abbrev main_while0b_v166 : Ref sig .tc := ⟨.hbm, 195, rfl⟩
abbrev main_while0b_v167 : Ref sig .tc := ⟨.hbm, 196, rfl⟩
abbrev main_while0b_v168 : Ref sig .tc := ⟨.hbm, 197, rfl⟩
abbrev main_while0b_v169 : Ref sig .tc := ⟨.hbm, 198, rfl⟩
abbrev main_while0b_v170 : Ref sig .tc := ⟨.hbm, 199, rfl⟩
abbrev main_while0b_v171 : Ref sig .tc := ⟨.hbm, 200, rfl⟩
abbrev main_while0b_v172 : Ref sig .tc := ⟨.hbm, 201, rfl⟩
abbrev main_while0b_v173 : Ref sig .tc := ⟨.hbm, 202, rfl⟩
abbrev main_while0b_v174 : Ref sig .tc := ⟨.hbm, 203, rfl⟩
abbrev main_while0b_v175 : Ref sig .tc := ⟨.hbm, 204, rfl⟩
abbrev main_while0b_call4_v0 : Ref sig .tc := ⟨.hbm, 205, rfl⟩
abbrev main_while0b_call4_c : Ref sig .tc := ⟨.hbm, 206, rfl⟩
abbrev main_while0b_call4_c_0 : Ref sig .tc := ⟨.hbm, 207, rfl⟩
abbrev main_while0b_call4_c_1 : Ref sig .tc := ⟨.hbm, 208, rfl⟩
abbrev main_while0b_call4_c_2 : Ref sig .tc := ⟨.hbm, 209, rfl⟩
abbrev main_while0b_v176 : Ref sig .tc := ⟨.hbm, 210, rfl⟩
abbrev main_while0b_c_35 : Ref sig .tc := ⟨.hbm, 211, rfl⟩
abbrev main_while0b_v177 : Ref sig .tc := ⟨.hbm, 212, rfl⟩
abbrev main_v130 : Ref sig .tc := ⟨.hbm, 213, rfl⟩
abbrev main_v131 : Ref sig .tc := ⟨.hbm, 214, rfl⟩
abbrev main_cst_21 : Ref sig .tc := ⟨.hbm, 215, rfl⟩
abbrev main_v132 : Ref sig .tc := ⟨.hbm, 216, rfl⟩
abbrev main_v133 : Ref sig .tc := ⟨.hbm, 217, rfl⟩
abbrev main_cst_22 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_cst_23 : Ref sig .tc := ⟨.hbm, 224, rfl⟩
abbrev main_v139 : Ref sig .tc := ⟨.hbm, 225, rfl⟩
abbrev main_v140 : Ref sig .tc := ⟨.hbm, 226, rfl⟩
abbrev main_cst_24 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_cst_25 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_call5_v0 : Ref sig .tc := ⟨.hbm, 243, rfl⟩
abbrev main_call5_v1 : Ref sig .tc := ⟨.hbm, 244, rfl⟩
abbrev main_call5_cst : Ref sig .tc := ⟨.hbm, 245, rfl⟩
abbrev main_call5_v2 : Ref sig .tc := ⟨.hbm, 246, rfl⟩
abbrev main_call5_v3 : Ref sig .tc := ⟨.hbm, 247, rfl⟩
abbrev main_call5_cst_0 : Ref sig .tc := ⟨.hbm, 248, rfl⟩
abbrev main_call5_v4 : Ref sig .tc := ⟨.hbm, 249, rfl⟩
abbrev main_call5_v5 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩

abbrev nD : Nat := 1
abbrev τ : Topo := Topo.v7x

variable {F : FTy → Type} [FloatOps F]

abbrev main_while0_count : Scf.Loop 32 := ⟨0#32, 32#32, 1#32⟩
-- ==== Experts.lean ====
abbrev S1179648x128 : Shape := ⟨2, ![1179648, 128]⟩
abbrev S288 : Shape := ⟨1, ![288]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S1179648x128, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S1179648x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S1179648x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S1179648x128 : Shape := ⟨2, ![1179648, 128]⟩
abbrev S288 : Shape := ⟨1, ![288]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S288x512x1024 : Shape := ⟨3, ![288, 512, 1024]⟩
abbrev S288x1 : Shape := ⟨2, ![288, 1]⟩
abbrev S288x1024x2048 : Shape := ⟨3, ![288, 1024, 2048]⟩
abbrev S288x512x2048 : Shape := ⟨3, ![288, 512, 2048]⟩
abbrev S288x1x2048 : Shape := ⟨3, ![288, 1, 2048]⟩
abbrev S_ : Shape := ⟨0, ![]⟩
abbrev S288x1024x1024 : Shape := ⟨3, ![288, 1024, 1024]⟩
abbrev S288x1x1024 : Shape := ⟨3, ![288, 1, 1024]⟩
abbrev S288x1x1 : Shape := ⟨3, ![288, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S1179648x128, .f32⟩
  | .hbm, ⟨1, _⟩ => ⟨S288, .i32⟩
  | .hbm, ⟨2, _⟩ => ⟨S1, .i32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S288x512x1024, .f32⟩
  | .hbm, ⟨8, _⟩ => ⟨S288x1, .i32⟩
  | .hbm, ⟨9, _⟩ => ⟨S288x1024x2048, .f32⟩
  | .hbm, ⟨10, _⟩ => ⟨S288x512x2048, .f32⟩
  | .hbm, ⟨11, _⟩ => ⟨S288x1, .i32⟩
  | .hbm, ⟨12, _⟩ => ⟨S288x1x2048, .f32⟩
  | .hbm, ⟨13, _⟩ => ⟨S288x512x2048, .f32⟩
  | .hbm, ⟨14, _⟩ => ⟨S288x512x2048, .f32⟩
  | .hbm, ⟨15, _⟩ => ⟨S288x512x1024, .f32⟩
  | .hbm, ⟨16, _⟩ => ⟨S288x512x1024, .f32⟩
  | .hbm, ⟨17, _⟩ => ⟨S_, .f32⟩
  | .hbm, ⟨18, _⟩ => ⟨S288x512x1024, .f32⟩
  | .hbm, ⟨19, _⟩ => ⟨S288x512x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S288x512x1024, .f32⟩
  | .hbm, ⟨24, _⟩ => ⟨S288x512x1024, .f32⟩
  | .hbm, ⟨25, _⟩ => ⟨S_, .f32⟩
  | .hbm, ⟨26, _⟩ => ⟨S288x512x1024, .f32⟩
  | .hbm, ⟨27, _⟩ => ⟨S288x512x1024, .f32⟩
  | .hbm, ⟨28, _⟩ => ⟨S_, .f32⟩
  | .hbm, ⟨29, _⟩ => ⟨S288x512x1024, .f32⟩
  | .hbm, ⟨30, _⟩ => ⟨S288x512x1024, .f32⟩
  | .hbm, ⟨31, _⟩ => ⟨S_, .f32⟩
  | .hbm, ⟨32, _⟩ => ⟨S288x512x1024, .f32⟩
  | .hbm, ⟨33, _⟩ => ⟨S288x512x1024, .f32⟩
  | .hbm, ⟨34, _⟩ => ⟨S288x512x1024, .f32⟩
  | .hbm, ⟨35, _⟩ => ⟨S288x512x1024, .f32⟩
  | .hbm, ⟨36, _⟩ => ⟨S_, .f32⟩
  | .hbm, ⟨37, _⟩ => ⟨S288x512x1024, .f32⟩
  | .hbm, ⟨38, _⟩ => ⟨S288x512x1024, .f32⟩
  | .hbm, ⟨39, _⟩ => ⟨S_, .f32⟩
  | .hbm, ⟨40, _⟩ => ⟨S288x512x1024, .f32⟩
  | .hbm, ⟨41, _⟩ => ⟨S288x512x1024, .f32⟩
  | .hbm, ⟨42, _⟩ => ⟨S288x512x1024, .f32⟩
  | .hbm, ⟨43, _⟩ => ⟨S288x512x1024, .f32⟩
  | .hbm, ⟨44, _⟩ => ⟨S288x1, .i32⟩
  | .hbm, ⟨45, _⟩ => ⟨S288x1024x1024, .f32⟩
  | .hbm, ⟨46, _⟩ => ⟨S288x512x1024, .f32⟩
  | .hbm, ⟨47, _⟩ => ⟨S288x1, .i32⟩
  | .hbm, ⟨48, _⟩ => ⟨S288x1x1024, .f32⟩
  | .hbm, ⟨49, _⟩ => ⟨S288x512x1024, .f32⟩
  | .hbm, ⟨50, _⟩ => ⟨S288x512x1024, .f32⟩
  | .hbm, ⟨51, _⟩ => ⟨S288, .i32⟩
  | .hbm, ⟨52, _⟩ => ⟨S_, .i32⟩
  | .hbm, ⟨53, _⟩ => ⟨S288, .i32⟩
  | .hbm, ⟨54, _⟩ => ⟨S288, .i1⟩
  | .hbm, ⟨55, _⟩ => ⟨S288x1x1, .i1⟩
  | .hbm, ⟨56, _⟩ => ⟨S_, .f32⟩
  | .hbm, ⟨57, _⟩ => ⟨S_, .f32⟩
  | .hbm, ⟨58, _⟩ => ⟨S288x512x1024, .i1⟩
  | .hbm, ⟨59, _⟩ => ⟨S288x512x1024, .f32⟩
  | .hbm, ⟨60, _⟩ => ⟨S288x512x1024, .f32⟩
  | .hbm, ⟨61, _⟩ => ⟨S1179648x128, .f32⟩
  | _, _ => ⟨S1179648x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== Projection.lean ====
abbrev S8x4096x1024 : Shape := ⟨3, ![8, 4096, 1024]⟩
abbrev S8x1x1024 : Shape := ⟨3, ![8, 1, 1024]⟩
abbrev S1x1024x3140 : Shape := ⟨3, ![1, 1024, 3140]⟩
abbrev S32768x1024 : Shape := ⟨2, ![32768, 1024]⟩
abbrev S1024x3140 : Shape := ⟨2, ![1024, 3140]⟩
abbrev S1024x512 : Shape := ⟨2, ![1024, 512]⟩
abbrev S1024x128 : Shape := ⟨2, ![1024, 128]⟩
abbrev S1024x256 : Shape := ⟨2, ![1024, 256]⟩
abbrev S1024x64 : Shape := ⟨2, ![1024, 64]⟩
abbrev S1024x4 : Shape := ⟨2, ![1024, 4]⟩
abbrev S_ : Shape := ⟨0, ![]⟩
abbrev S1024x60 : Shape := ⟨2, ![1024, 60]⟩
abbrev S1024x3200 : Shape := ⟨2, ![1024, 3200]⟩
abbrev S32768x3200 : Shape := ⟨2, ![32768, 3200]⟩
abbrev S512x1024 : Shape := ⟨2, ![512, 1024]⟩
abbrev S1x1x1024 : Shape := ⟨3, ![1, 1, 1024]⟩
abbrev S512x3200 : Shape := ⟨2, ![512, 3200]⟩
abbrev S1x1024 : Shape := ⟨2, ![1, 1024]⟩

abbrev nBuf : Space → Nat
  | .hbm => 21
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1x1024x3140, .f32⟩
  | .hbm, ⟨4, _⟩ => ⟨S32768x1024, .f32⟩
  | .hbm, ⟨5, _⟩ => ⟨S1024x3140, .f32⟩
  | .hbm, ⟨6, _⟩ => ⟨S1024x512, .f32⟩
  | .hbm, ⟨7, _⟩ => ⟨S1024x128, .f32⟩
  | .hbm, ⟨8, _⟩ => ⟨S1024x128, .f32⟩
  | .hbm, ⟨9, _⟩ => ⟨S1024x256, .f32⟩
  | .hbm, ⟨10, _⟩ => ⟨S1024x64, .f32⟩
  | .hbm, ⟨11, _⟩ => ⟨S1024x4, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S_, .f32⟩
  | .hbm, ⟨17, _⟩ => ⟨S1024x60, .f32⟩
  | .hbm, ⟨18, _⟩ => ⟨S1024x3200, .f32⟩
  | .hbm, ⟨19, _⟩ => ⟨S1024x3200, .bf16⟩
  | .hbm, ⟨20, _⟩ => ⟨S32768x3200, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3200, .bf16⟩
  | .local _ .vmem, ⟨7, _⟩ => ⟨S512x3200, .f32⟩
  | .local _ .vmem, ⟨8, _⟩ => ⟨S512x3200, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjectionReferenceIdeal.lean ====
abbrev S8x4096x1024 : Shape := ⟨3, ![8, 4096, 1024]⟩
abbrev S8x1x1024 : Shape := ⟨3, ![8, 1, 1024]⟩
abbrev S1x1024x3140 : Shape := ⟨3, ![1, 1024, 3140]⟩
abbrev S_ : Shape := ⟨0, ![]⟩
abbrev S1024x3140 : Shape := ⟨2, ![1024, 3140]⟩
abbrev S8x4096x3140 : Shape := ⟨3, ![8, 4096, 3140]⟩
abbrev S8x4096x512 : Shape := ⟨3, ![8, 4096, 512]⟩
abbrev S8x4096x128 : Shape := ⟨3, ![8, 4096, 128]⟩
abbrev S8x4096x256 : Shape := ⟨3, ![8, 4096, 256]⟩
abbrev S8x4096x64 : Shape := ⟨3, ![8, 4096, 64]⟩
abbrev S8x4096x4 : Shape := ⟨3, ![8, 4096, 4]⟩
abbrev S8x4096x60 : Shape := ⟨3, ![8, 4096, 60]⟩
abbrev S8x4096x3200 : Shape := ⟨3, ![8, 4096, 3200]⟩
abbrev S32768x3200 : Shape := ⟨2, ![32768, 3200]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1x1024x3140, .f32⟩
  | .hbm, ⟨4, _⟩ => ⟨S_, .f32⟩
  | .hbm, ⟨5, _⟩ => ⟨S8x1x1024, .f32⟩
  | .hbm, ⟨6, _⟩ => ⟨S8x1x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S1024x3140, .f32⟩
  | .hbm, ⟨12, _⟩ => ⟨S8x4096x3140, .f32⟩
  | .hbm, ⟨13, _⟩ => ⟨S8x4096x512, .f32⟩
  | .hbm, ⟨14, _⟩ => ⟨S8x4096x128, .f32⟩
  | .hbm, ⟨15, _⟩ => ⟨S8x4096x128, .f32⟩
  | .hbm, ⟨16, _⟩ => ⟨S8x4096x256, .f32⟩
  | .hbm, ⟨17, _⟩ => ⟨S8x4096x64, .f32⟩
  | .hbm, ⟨18, _⟩ => ⟨S8x4096x4, .f32⟩
  | .hbm, ⟨19, _⟩ => ⟨S8x4096x512, .f32⟩
  | .hbm, ⟨20, _⟩ => ⟨S8x4096x512, .f32⟩
  | .hbm, ⟨21, _⟩ => ⟨S8x4096x512, .f32⟩
  | .hbm, ⟨22, _⟩ => ⟨S8x4096x512, .f32⟩
  | .hbm, ⟨23, _⟩ => ⟨S_, .f32⟩
  | .hbm, ⟨24, _⟩ => ⟨S8x4096x60, .f32⟩
  | .hbm, ⟨25, _⟩ => ⟨S8x4096x3200, .f32⟩
  | .hbm, ⟨26, _⟩ => ⟨S32768x3200, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.Ret.Model.lean ====
/-
  The retention as formulas on extended reals, one head of one chunk of 128 positions at a time.

  A matrix of one head of one chunk is a function of a position and a lane. The kernel and the reference are both brought
  to these formulas: the kernel's grid point handles the four heads of one chunk, the reference's loop the four heads of
  all eight batches of one chunk.
-/
module

public import Idealize.ShloMosaic.Lib.Pointwise

@[expose] public section

noncomputable section

open Idealize.ShloMosaic

namespace Cert.Proof.Ret

/-- One head of one chunk: position (or lane) by lane. -/
abbrev Mat := Fin 128 → Fin 128 → EReal

/-- The rotary rotation with full-width tables: `x · cos` plus the half-swapped `x` times the signed `sin`. -/
def rot (cs sn x : Mat) : Mat := fun i d =>
  x i d * cs i d + x i ⟨(↑d + 128 - 64) % 128, Nat.mod_lt _ (by decide)⟩ * sn i d

/-- The factor `128 ^ (-1/2)` on the keys, as the rounded constant both programs hold. -/
def keyScale : EReal := Ideal.ofBits .f32 0x3DB504F3#32

/-- The rotated and scaled keys. -/
def rotKey (cs sn x : Mat) : Mat := fun i d => rot cs sn x i d * keyScale

/-- The state after a chunk: the decayed state plus the decayed keys' outer products with the values. -/
def nextState (K V kd cd S : Mat) : Mat := fun d v =>
  S d v * cd d v + ∑ j : Fin 128, K j d * kd j d * V j v

/-- A chunk's retention: the attention within the chunk plus what the state brings from before it. -/
def mix (Q K V inner qd S : Mat) : Mat := fun i v =>
  (∑ j : Fin 128, (∑ d : Fin 128, Q i d * K j d) * inner i j * V j v) + (∑ d : Fin 128, Q i d * S d v) * qd i v

/-- The mean of a row of 128. -/
def rowMean (Y : Mat) (i : Fin 128) : EReal := Ideal.div (∑ v : Fin 128, Y i v) (Ideal.ofBits .f32 0x43000000#32)

/-- A row less its mean. -/
def centred (Y : Mat) : Mat := fun i v => Y i v - rowMean Y i

/-- The head norm of a row: centred, over the root of its variance plus the small constant. -/
def headNorm (Y : Mat) : Mat := fun i v =>
  centred Y i v * Ideal.rsqrt (rowMean (fun i v => centred Y i v * centred Y i v) i + Ideal.ofBits .f32 0x3727C5AC#32)

/-- One output: the gate's silu times the weighted head norm. -/
def gated (g y w : EReal) : EReal := g * Ideal.logistic g * (y * w)

/-- The states of one head over the chunks, from zero. -/
def stateAt (K V : ℕ → Mat) (kd cd : Mat) : ℕ → Mat
  | 0 => fun _ _ => 0
  | n + 1 => nextState (K n) (V n) kd cd (stateAt K V kd cd n)

/-! The tables, and the retention of whole sequences. -/

/-- A whole number, as the programs make it of a 32-bit index. -/
def num (n : ℕ) : EReal := FloatOps.sitofp (F := Ideal) FTy.f32 (BitVec.ofNat 32 n)

/-- The rotary angle of position `p` at frequency `k` of 64. -/
def angle (p k : ℕ) : EReal :=
  num p * Ideal.div 1 (Ideal.pow (Ideal.ofBits .f32 0x461C4000#32)
    (Ideal.div (Ideal.ofBits .f32 0x40000000#32 * num k) (Ideal.ofBits .f32 0x43000000#32)))

/-- The logarithm of head `h`'s decay, `log (1 - 2 ^ (-5 - h))`. -/
def logDecay (h : Fin 4) : EReal :=
  Ideal.log (1 - Ideal.pow (Ideal.ofBits .f32 0x40000000#32) (Ideal.ofBits .f32 0xC0A00000#32 - num h))

/-- The decay between two positions of a chunk, zero for a later one. -/
def innerDecay (h : Fin 4) : Mat := fun i j =>
  if 0 ≤ num i - num j then Ideal.exp (max (num i - num j) 0 * logDecay h) else 0

/-- The decay of the state at position `i` of a chunk. -/
def queryDecay (h : Fin 4) (i : Fin 128) : EReal := Ideal.exp ((num i + 1) * logDecay h)

/-- The decay of position `j`'s key up to the chunk's end. -/
def keyDecay (h : Fin 4) (j : Fin 128) : EReal := Ideal.exp ((Ideal.ofBits .f32 0x42FE0000#32 - num j) * logDecay h)

/-- The decay of the state over a whole chunk. -/
def chunkDecay (h : Fin 4) : EReal := Ideal.exp (Ideal.ofBits .f32 0x43000000#32 * logDecay h)

/-- The rotary rotation of a chunk that begins at position `p`: each lane of the first half with its partner of the second. -/
def rotary (p : ℕ) (x : Mat) : Mat := fun i d =>
  if h : d.val < 64 then
    x i d * Ideal.cos (angle (p + i) d) - x i ⟨64 + d.val, by omega⟩ * Ideal.sin (angle (p + i) d)
  else
    x i ⟨d.val - 64, by omega⟩ * Ideal.sin (angle (p + i) (d.val - 64)) + x i d * Ideal.cos (angle (p + i) (d.val - 64))

/-- The full-width cosine table from position `p` on. -/
def wideCos (p : ℕ) : Mat := fun i d =>
  if d.val < 64 then Ideal.cos (angle (p + i) d) else Ideal.cos (angle (p + i) (d.val - 64))

/-- The full-width signed sine table from position `p` on. -/
def wideSin (p : ℕ) : Mat := fun i d =>
  if d.val < 64 then -Ideal.sin (angle (p + i) d) else Ideal.sin (angle (p + i) (d.val - 64))

/-- The rotation by full-width tables is the rotation by halves. -/
theorem rot_wide (p : ℕ) (x : Mat) : rot (wideCos p) (wideSin p) x = rotary p x := by
  funext i d
  unfold rot rotary wideCos wideSin
  by_cases h : d.val < 64
  · have e : (⟨(d.val + 128 - 64) % 128, Nat.mod_lt _ (by decide)⟩ : Fin 128) = ⟨64 + d.val, by omega⟩ := Fin.ext (by show (d.val + 128 - 64) % 128 = 64 + d.val; omega)
    rw [if_pos h, if_pos h, dif_pos h, e, mul_neg, ← sub_eq_add_neg]
  · have e : (⟨(d.val + 128 - 64) % 128, Nat.mod_lt _ (by decide)⟩ : Fin 128) = ⟨d.val - 64, by omega⟩ := Fin.ext (by show (d.val + 128 - 64) % 128 = d.val - 64; omega)
    rw [if_neg h, if_neg h, dif_neg h, e, add_comm]

/-- Eight sequences of 4096 positions, 512 lanes (four heads of 128) each. -/
abbrev Seqs := Fin 8 → Fin 4096 → Fin 512 → EReal

/-- Head `h` of chunk `n` of sequence `b`. -/
def chunk (x : Seqs) (b : Fin 8) (h : Fin 4) (n : ℕ) : Mat := fun i d =>
  x b ⟨(n * 128 + i.val) % 4096, Nat.mod_lt _ (by decide)⟩ ⟨h.val * 128 + d.val, by omega⟩

def queries (x : Seqs) (b : Fin 8) (h : Fin 4) (n : ℕ) : Mat := rotary (n * 128) (chunk x b h n)

def keys (x : Seqs) (b : Fin 8) (h : Fin 4) (n : ℕ) : Mat := fun i d => rotary (n * 128) (chunk x b h n) i d * keyScale

/-- The state of head `h` of sequence `b` after `n` chunks. -/
def carried (k v : Seqs) (b : Fin 8) (h : Fin 4) : ℕ → Mat :=
  stateAt (keys k b h) (chunk v b h) (fun j _ => keyDecay h j) (fun _ _ => chunkDecay h)

/-- The retention of head `h` of sequence `b` in chunk `n`. -/
def retention (q k v : Seqs) (b : Fin 8) (h : Fin 4) (n : ℕ) : Mat :=
  mix (queries q b h n) (keys k b h n) (chunk v b h n) (innerDecay h) (fun i _ => queryDecay h i) (carried k v b h n)

/-- The layer's retention branch, before its projection: normed per head, weighted and gated. -/
def branch (q k v g : Seqs) (w : Fin 512 → EReal) (b : Fin 8) (l : Fin 4096) (c : Fin 512) : EReal :=
  gated (g b l c) (headNorm (retention q k v b ⟨c.val / 128, by omega⟩ (l.val / 128)) ⟨l.val % 128, by omega⟩ ⟨c.val % 128, by omega⟩) (w c)

end Cert.Proof.Ret

end
-- ==== Proof.Ret.Host.lean ====
/-
  The kernel's host arrays at an index: the concatenated projections, the rotary and decay tables, the norm's weights.
-/
module

public import proofs.«01_k».proof.Proof.Gen.KernelIdeal.Value
public import proofs.«01_k».proof.Proof.Ret.Model
public import Idealize.ShloMosaic.Lib.StableHlo.ReadAt
public import Idealize.ShloMosaic.Lib.Pipeline.ValueKit

@[expose] public section

set_option maxRecDepth 16384

noncomputable section

namespace Cert.KernelIdeal.RetHost

open Idealize.ShloMosaic Idealize.ShloMosaic.TcCoe Idealize.SL
open Cert.KernelIdeal Cert.KernelIdeal.Gen Cert.Proof.Ret

variable (m : (ℓ : Loc nD τ sig) → Buf (Elt Ideal) ℓ)

/-- Part 0 of the concatenated projections is argument 0, its sequences laid end to end. -/
theorem proj_0 (c : Dev nD) (r : Fin 32768) (d : Fin 512) :
    V m c main_v5 (ix2 r (⟨d.val, by omega⟩ : Fin 3200))
      = m ((c.tc).loc main_arg0) (ix3 (⟨r.val / 4096, by omega⟩ : Fin 8) (⟨r.val % 4096, by omega⟩ : Fin 4096) d) := by
  unfold V
  rw [List.flatten_cons, List.flatten_cons, List.flatten_cons, List.flatten_nil, List.append_nil]
  simp only [StableHlo.after_append]
  after_reads_at
  rw [StableHlo.reshape_result]
  after_reads_at

/-- Part 1 of the concatenated projections is argument 1, its sequences laid end to end. -/
theorem proj_1 (c : Dev nD) (r : Fin 32768) (d : Fin 512) :
    V m c main_v5 (ix2 r (⟨512 + d.val, by omega⟩ : Fin 3200))
      = m ((c.tc).loc main_arg1) (ix3 (⟨r.val / 4096, by omega⟩ : Fin 8) (⟨r.val % 4096, by omega⟩ : Fin 4096) d) := by
  unfold V
  rw [List.flatten_cons, List.flatten_cons, List.flatten_cons, List.flatten_nil, List.append_nil]
  simp only [StableHlo.after_append]
  after_reads_at
  refine (congrFun (StableHlo.reshape_result ..) _).trans ?_
  after_reads_at

/-- Part 2 of the concatenated projections is argument 2, its sequences laid end to end. -/
theorem proj_2 (c : Dev nD) (r : Fin 32768) (d : Fin 512) :
    V m c main_v5 (ix2 r (⟨1024 + d.val, by omega⟩ : Fin 3200))
      = m ((c.tc).loc main_arg2) (ix3 (⟨r.val / 4096, by omega⟩ : Fin 8) (⟨r.val % 4096, by omega⟩ : Fin 4096) d) := by
  unfold V
  rw [List.flatten_cons, List.flatten_cons, List.flatten_cons, List.flatten_nil, List.append_nil]
  simp only [StableHlo.after_append]
  after_reads_at
  have e : (⟨1024 + d.val - 512 - 512, by omega⟩ : Fin 512) = d := Fin.ext (by show 1024 + d.val - 512 - 512 = d.val; omega)
  rw [dif_neg (by omega), dif_neg (by omega), dif_pos (by omega)]
  refine (congrFun (StableHlo.reshape_result ..) _).trans ?_
  rw [e]
  after_reads_at

/-- Part 3 of the concatenated projections is argument 3, its sequences laid end to end. -/
theorem proj_3 (c : Dev nD) (r : Fin 32768) (d : Fin 512) :
    V m c main_v5 (ix2 r (⟨1536 + d.val, by omega⟩ : Fin 3200))
      = m ((c.tc).loc main_arg3) (ix3 (⟨r.val / 4096, by omega⟩ : Fin 8) (⟨r.val % 4096, by omega⟩ : Fin 4096) d) := by
  unfold V
  rw [List.flatten_cons, List.flatten_cons, List.flatten_cons, List.flatten_nil, List.append_nil]
  simp only [StableHlo.after_append]
  after_reads_at
  have e : (⟨1536 + d.val - 512 - 512 - 512, by omega⟩ : Fin 512) = d := Fin.ext (by show 1536 + d.val - 512 - 512 - 512 = d.val; omega)
  rw [dif_neg (by omega), dif_neg (by omega), dif_neg (by omega), dif_pos (by omega)]
  refine (congrFun (StableHlo.reshape_result ..) _).trans ?_
  rw [e]
  after_reads_at

/-- The norm's weights. -/
theorem weight (c : Dev nD) (w : Fin 512) : V m c main_v80 (ix2 0 w) = m ((c.tc).loc main_arg4) (ix2 0 w) := by
  unfold V
  rw [List.flatten_cons, List.flatten_cons, List.flatten_cons, List.flatten_nil, List.append_nil]
  simp only [StableHlo.after_append]
  after_reads_at

/-- The full-width cosine table. -/
theorem cos_at (c : Dev nD) (l : Fin 4096) (d : Fin 128) :
    V m c main_v25 (ix2 l d) = if d.val < 64 then Ideal.cos (angle l d) else Ideal.cos (angle l (d.val - 64)) := by
  unfold V
  rw [List.flatten_cons, List.flatten_cons, List.flatten_cons, List.flatten_nil, List.append_nil]
  simp only [StableHlo.after_append]
  after_reads_at
  pointwise [angle, num]
  split <;> rfl

/-- The full-width signed sine table. -/
theorem sin_at (c : Dev nD) (l : Fin 4096) (d : Fin 128) :
    V m c main_v27 (ix2 l d) = if d.val < 64 then -Ideal.sin (angle l d) else Ideal.sin (angle l (d.val - 64)) := by
  unfold V
  rw [List.flatten_cons, List.flatten_cons, List.flatten_cons, List.flatten_nil, List.append_nil]
  simp only [StableHlo.after_append]
  after_reads_at
  pointwise [angle, num]
  split <;> rfl

/-- The decay between two positions of a chunk. -/
theorem inner_at (c : Dev nD) (h : Fin 4) (i j : Fin 128) : V m c main_v53 (ix3 h i j) = innerDecay h i j := by
  unfold V
  rw [List.flatten_cons, List.flatten_cons, List.flatten_cons, List.flatten_nil, List.append_nil]
  simp only [StableHlo.after_append]
  after_reads_at
  pointwise [innerDecay, logDecay, num, id_eq]

/-- The state's decay at a position. -/
theorem query_at (c : Dev nD) (h : Fin 4) (i j : Fin 128) : V m c main_v74 (ix3 h i j) = queryDecay h i := by
  unfold V
  rw [List.flatten_cons, List.flatten_cons, List.flatten_cons, List.flatten_nil, List.append_nil]
  simp only [StableHlo.after_append]
  after_reads_at
  pointwise [queryDecay, logDecay, num]

/-- A key's decay up to the chunk's end. -/
theorem key_at (c : Dev nD) (h : Fin 4) (i j : Fin 128) : V m c main_v76 (ix3 h i j) = keyDecay h i := by
  unfold V
  rw [List.flatten_cons, List.flatten_cons, List.flatten_cons, List.flatten_nil, List.append_nil]
  simp only [StableHlo.after_append]
  after_reads_at
  pointwise [keyDecay, logDecay, num]

/-- The state's decay over a chunk. -/
theorem chunk_at (c : Dev nD) (h : Fin 4) (i j : Fin 128) : V m c main_v78 (ix3 h i j) = chunkDecay h := by
  unfold V
  rw [List.flatten_cons, List.flatten_cons, List.flatten_cons, List.flatten_nil, List.append_nil]
  simp only [StableHlo.after_append]
  after_reads_at
  pointwise [chunkDecay, logDecay, num]

end Cert.KernelIdeal.RetHost

end
-- ==== Proof.Ret.Tile.lean ====
/-
  One grid point of the retention kernel, read at an index: what it leaves in its output block and in the carried state,
  as the formulas of the model over the block of projections, the rotary tables, the decay tables and the state before.
-/
module

public import proofs.«01_k».proof.Proof.Gen.KernelIdeal.Frame
public import proofs.«01_k».proof.Proof.Ret.Model
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.RetTile

open Cert.KernelIdeal Cert.KernelIdeal.Gen Cert.Proof.Ret

/-- Head `h` of part `b` (queries, keys, values, gates) of a block of projections. -/
def part (x0 : Vec Ideal S128x2048 .f32) (b : Fin 4) (h : Fin 4) : Mat := fun i d =>
  x0 (ix2 i ⟨512 * b.val + 128 * h.val + d.val, by omega⟩)

/-- A table of one matrix. -/
def tab (x : Vec Ideal S128x128 .f32) : Mat := fun i d => x (ix2 i d)

/-- Head `h` of a table of four matrices. -/
def tabs (x : Vec Ideal S4x128x128 .f32) (h : Fin 4) : Mat := fun i d => x (ix3 h i d)

/-- The rotated queries of head `h`. -/
def qrot (x0 : Vec Ideal S128x2048 .f32) (x1 x2 : Vec Ideal S128x128 .f32) (h : Fin 4) : Mat :=
  rot (tab x1) (tab x2) (part x0 0 h)

/-- The rotated and scaled keys of head `h`. -/
def krot (x0 : Vec Ideal S128x2048 .f32) (x1 x2 : Vec Ideal S128x128 .f32) (h : Fin 4) : Mat :=
  rotKey (tab x1) (tab x2) (part x0 1 h)

/-- Head `h` of the output block, over the state `S` before. -/
def headOut (x0 : Vec Ideal S128x2048 .f32) (x1 x2 : Vec Ideal S128x128 .f32) (x3 x4 : Vec Ideal S4x128x128 .f32)
    (x7 : Vec Ideal S1x512 .f32) (S : Fin 4 → Mat) (h : Fin 4) (i v : Fin 128) : EReal :=
  gated (part x0 3 h i v)
    (headNorm (mix (qrot x0 x1 x2 h) (krot x0 x1 x2 h) (part x0 2 h) (tabs x3 h) (tabs x4 h) (S h)) i v)
    (x7 (ix2 0 ⟨128 * h.val + v.val, by omega⟩))

/-- Head `h` of the state after the block. -/
def headState (x0 : Vec Ideal S128x2048 .f32) (x1 x2 : Vec Ideal S128x128 .f32) (x5 x6 : Vec Ideal S4x128x128 .f32)
    (S : Fin 4 → Mat) (h : Fin 4) : Mat :=
  nextState (krot x0 x1 x2 h) (part x0 2 h) (tabs x5 h) (tabs x6 h) (S h)

/-- The whole output block. -/
def outBlock (x0 : Vec Ideal S128x2048 .f32) (x1 x2 : Vec Ideal S128x128 .f32) (x3 x4 : Vec Ideal S4x128x128 .f32)
    (x7 : Vec Ideal S1x512 .f32) (S : Fin 4 → Mat) (i : Fin 128) (w : Fin 512) : EReal :=
  headOut x0 x1 x2 x3 x4 x7 S ⟨w.val / 128, by omega⟩ i ⟨w.val % 128, Nat.mod_lt _ (by decide)⟩

theorem outBlock_at (x0 : Vec Ideal S128x2048 .f32) (x1 x2 : Vec Ideal S128x128 .f32) (x3 x4 : Vec Ideal S4x128x128 .f32)
    (x7 : Vec Ideal S1x512 .f32) (S : Fin 4 → Mat) (h : Fin 4) {i r v : Fin 128} {w : Fin 512} (hi : i.val = r.val)
    (hw : w.val = 128 * h.val + v.val) : headOut x0 x1 x2 x3 x4 x7 S h r v = outBlock x0 x1 x2 x3 x4 x7 S i w := by
  obtain rfl : i = r := Fin.ext hi
  have eh : h = ⟨w.val / 128, by omega⟩ := Fin.ext (by simp only; omega)
  have ev : v = ⟨w.val % 128, Nat.mod_lt _ (by decide)⟩ := Fin.ext (by simp only; omega)
  unfold outBlock
  rw [← eh, ← ev]

theorem headState_at (x0 : Vec Ideal S128x2048 .f32) (x1 x2 : Vec Ideal S128x128 .f32) (x5 x6 : Vec Ideal S4x128x128 .f32)
    (S : Fin 4 → Mat) {h k : Fin 4} {d d' v v' : Fin 128} (hh : h.val = k.val) (hd : d.val = d'.val) (hv : v.val = v'.val) :
    headState x0 x1 x2 x5 x6 S k d' v' = headState x0 x1 x2 x5 x6 S h d v := by
  obtain rfl : h = k := Fin.ext hh
  obtain rfl : d = d' := Fin.ext hd
  obtain rfl : v = v' := Fin.ext hv
  rfl

section
variable (c : Dev nD) (i : grid0.Coords) (a2 : Memref sig .tc .vmem S128x2048 .f32) (h2 : a2.IsWhole)
  (a3 : Memref sig .tc .vmem S128x128 .f32) (h3 : a3.IsWhole) (a4 : Memref sig .tc .vmem S128x128 .f32) (h4 : a4.IsWhole)
  (a5 : Memref sig .tc .vmem S4x128x128 .f32) (h5 : a5.IsWhole) (a6 : Memref sig .tc .vmem S4x128x128 .f32) (h6 : a6.IsWhole)
  (a7 : Memref sig .tc .vmem S4x128x128 .f32) (h7 : a7.IsWhole) (a8 : Memref sig .tc .vmem S4x128x128 .f32) (h8 : a8.IsWhole)
  (a9 : Memref sig .tc .vmem S1x512 .f32) (h9 : a9.IsWhole) (a10 : Memref sig .tc .vmem S128x512 .f32) (h10 : a10.IsWhole)
  (a11 : Memref sig .tc .vmem S4x128x128 .f32) (h11 : a11.IsWhole)
  (x0 : Vec Ideal S128x2048 .f32) (x1 x2 : Vec Ideal S128x128 .f32) (x3 x4 x5 x6 : Vec Ideal S4x128x128 .f32)
  (x7 : Vec Ideal S1x512 .f32) (xs : Vec Ideal S4x128x128 .f32)

/-- A point that goes on from the state `xs`: its output block. -/
theorem out_B (hc : ¬cond0_0 i) (r : Fin 128) (w : Fin 512) :
    out0_B_8 (F := Ideal) c i a2 h2 a3 h3 a4 h4 a5 h5 a6 h6 a7 h7 a8 h8 a9 h9 a10 h10 a11 h11 hc x0 x1 x2 x3 x4 x5 x6 x7 xs (ix2 r w)
      = outBlock x0 x1 x2 x3 x4 x7 (tabs xs) r w := by
  frame_open
  simp (disch := decide) only [↓ View.readCov_skip, ↓ View.readCov_cons_toLoadRect, ↓ View.readCov_fill]
  frame_out
  canon_tiles x h
  case piece0 =>
    idx_vars x
    refine Eq.trans ?_ (outBlock_at _ _ _ _ _ _ _ 3 h0 h1)
    open_payloads
    pointwise [headOut, gated, headNorm, centred, rowMean, mix, qrot, krot, rot, rotKey, keyScale, part, tab, tabs]
  case piece1 =>
    idx_vars x
    refine Eq.trans ?_ (outBlock_at _ _ _ _ _ _ _ 2 h0 h1)
    open_payloads
    pointwise [headOut, gated, headNorm, centred, rowMean, mix, qrot, krot, rot, rotKey, keyScale, part, tab, tabs]
  case piece2 =>
    idx_vars x
    refine Eq.trans ?_ (outBlock_at _ _ _ _ _ _ _ 1 h0 h1)
    open_payloads
    pointwise [headOut, gated, headNorm, centred, rowMean, mix, qrot, krot, rot, rotKey, keyScale, part, tab, tabs]
  case piece3 =>
    idx_vars x
    refine Eq.trans ?_ (outBlock_at _ _ _ _ _ _ _ 0 h0 (by simpa using h1))
    open_payloads
    pointwise [headOut, gated, headNorm, centred, rowMean, mix, qrot, krot, rot, rotKey, keyScale, part, tab, tabs]

/-- A point that starts a batch: its output block, the state before being zero. -/
theorem out_A (hc : cond0_0 i) (r : Fin 128) (w : Fin 512) :
    out0_A_8 (F := Ideal) c i a2 h2 a3 h3 a4 h4 a5 h5 a6 h6 a7 h7 a8 h8 a9 h9 a10 h10 a11 h11 hc x0 x1 x2 x3 x4 x5 x6 x7 (ix2 r w)
      = outBlock x0 x1 x2 x3 x4 x7 (fun _ _ _ => 0) r w := by
  frame_open
  simp (disch := decide) only [↓ View.readCov_skip, ↓ View.readCov_cons_toLoadRect, ↓ View.readCov_fill]
  frame_out
  canon_tiles x h
  case piece0 =>
    idx_vars x
    refine Eq.trans ?_ (outBlock_at _ _ _ _ _ _ _ 3 h0 h1)
    open_payloads
    pointwise [headOut, gated, headNorm, centred, rowMean, mix, qrot, krot, rot, rotKey, keyScale, part, tab, tabs]
  case piece1 =>
    idx_vars x
    refine Eq.trans ?_ (outBlock_at _ _ _ _ _ _ _ 2 h0 h1)
    open_payloads
    pointwise [headOut, gated, headNorm, centred, rowMean, mix, qrot, krot, rot, rotKey, keyScale, part, tab, tabs]
  case piece2 =>
    idx_vars x
    refine Eq.trans ?_ (outBlock_at _ _ _ _ _ _ _ 1 h0 h1)
    open_payloads
    pointwise [headOut, gated, headNorm, centred, rowMean, mix, qrot, krot, rot, rotKey, keyScale, part, tab, tabs]
  case piece3 =>
    idx_vars x
    refine Eq.trans ?_ (outBlock_at _ _ _ _ _ _ _ 0 h0 (by simpa using h1))
    open_payloads
    pointwise [headOut, gated, headNorm, centred, rowMean, mix, qrot, krot, rot, rotKey, keyScale, part, tab, tabs]

/-- A point that goes on from the state `xs`: the state after it. -/
theorem state_B (hc : ¬cond0_0 i) (h : Fin 4) (d v : Fin 128) :
    sout0_B_0 (F := Ideal) c i a2 h2 a3 h3 a4 h4 a5 h5 a6 h6 a7 h7 a8 h8 a9 h9 a10 h10 a11 h11 hc x0 x1 x2 x3 x4 x5 x6 x7 xs (ix3 h d v)
      = headState x0 x1 x2 x5 x6 (tabs xs) h d v := by
  frame_open
  simp (disch := decide) only [↓ View.readCov_skip, ↓ View.readCov_cons_toLoadRect, ↓ View.readCov_fill]
  frame_out
  canon_tiles x h
  case piece0 =>
    idx_vars x
    refine Eq.trans ?_ (headState_at _ _ _ _ _ _ (k := 3) (by simpa using h0) h1 h2)
    open_payloads
    pointwise [headState, nextState, krot, rot, rotKey, keyScale, part, tab, tabs]
  case piece1 =>
    idx_vars x
    refine Eq.trans ?_ (headState_at _ _ _ _ _ _ (k := 2) (by simpa using h0) h1 h2)
    open_payloads
    pointwise [headState, nextState, krot, rot, rotKey, keyScale, part, tab, tabs]
  case piece2 =>
    idx_vars x
    refine Eq.trans ?_ (headState_at _ _ _ _ _ _ (k := 1) (by simpa using h0) h1 h2)
    open_payloads
    pointwise [headState, nextState, krot, rot, rotKey, keyScale, part, tab, tabs]
  case piece3 =>
    idx_vars x
    refine Eq.trans ?_ (headState_at _ _ _ _ _ _ (k := 0) (by simpa using h0) h1 h2)
    open_payloads
    pointwise [headState, nextState, krot, rot, rotKey, keyScale, part, tab, tabs]

/-- A point that starts a batch: the state after it, the four heads' stores over the zeros stored first. -/
theorem state_A (hc : cond0_0 i) (h : Fin 4) (d v : Fin 128) :
    sout0_A_0 (F := Ideal) c i a2 h2 a3 h3 a4 h4 a5 h5 a6 h6 a7 h7 a8 h8 a9 h9 a10 h10 a11 h11 hc x0 x1 x2 x3 x4 x5 x6 x7 (ix3 h d v)
      = headState x0 x1 x2 x5 x6 (fun _ _ _ => 0) h d v := by
  frame_open
  simp (disch := decide) only [↓ View.readCov_skip, ↓ View.readCov_cons_toLoadRect, ↓ View.readCov_fill]
  frame_out
  let G : S4x128x128.Idx → EReal := fun y => headState x0 x1 x2 x5 x6 (fun _ _ _ => 0) (y 0) (y 1) (y 2)
  refine View.canon_append_of_piecesOf (Val := Elt Ideal) (e := .f32) G [_] [_, _, _, _] ⟨fun x => ?_, fun x => ?_, fun x => ?_, fun x => ?_, trivial⟩
    (ix3 h d v) (View.cover_of_tiled_head _ _ _ (by rfl) _)
  · revert x; intro (y : S1x128x128.Idx)
    idx_vars y
    refine Eq.trans ?_ (headState_at x0 x1 x2 x5 x6 (fun _ _ _ => 0) (k := 3) (d' := y1) (v' := y2) (by show 3 + 1 * (y0 : ℕ) = 3; omega) ?_ ?_)
    · open_payloads
      pointwise [headState, nextState, krot, rot, rotKey, keyScale, part, tab, tabs]
    · show 0 + 1 * (_ : ℕ) = _; rw [Nat.zero_add, Nat.one_mul]; rfl
    · show 0 + 1 * (_ : ℕ) = _; rw [Nat.zero_add, Nat.one_mul]; rfl
  · revert x; intro (y : S1x128x128.Idx)
    idx_vars y
    refine Eq.trans ?_ (headState_at x0 x1 x2 x5 x6 (fun _ _ _ => 0) (k := 2) (d' := y1) (v' := y2) (by show 2 + 1 * (y0 : ℕ) = 2; omega) ?_ ?_)
    · open_payloads
      pointwise [headState, nextState, krot, rot, rotKey, keyScale, part, tab, tabs]
    · show 0 + 1 * (_ : ℕ) = _; rw [Nat.zero_add, Nat.one_mul]; rfl
    · show 0 + 1 * (_ : ℕ) = _; rw [Nat.zero_add, Nat.one_mul]; rfl
  · revert x; intro (y : S1x128x128.Idx)
    idx_vars y
    refine Eq.trans ?_ (headState_at x0 x1 x2 x5 x6 (fun _ _ _ => 0) (k := 1) (d' := y1) (v' := y2) (by show 1 + 1 * (y0 : ℕ) = 1; omega) ?_ ?_)
    · open_payloads
      pointwise [headState, nextState, krot, rot, rotKey, keyScale, part, tab, tabs]
    · show 0 + 1 * (_ : ℕ) = _; rw [Nat.zero_add, Nat.one_mul]; rfl
    · show 0 + 1 * (_ : ℕ) = _; rw [Nat.zero_add, Nat.one_mul]; rfl
  · revert x; intro (y : S1x128x128.Idx)
    idx_vars y
    refine Eq.trans ?_ (headState_at x0 x1 x2 x5 x6 (fun _ _ _ => 0) (k := 0) (d' := y1) (v' := y2) (by show 0 + 1 * (y0 : ℕ) = 0; omega) ?_ ?_)
    · open_payloads
      pointwise [headState, nextState, krot, rot, rotKey, keyScale, part, tab, tabs]
    · show 0 + 1 * (_ : ℕ) = _; rw [Nat.zero_add, Nat.one_mul]; rfl
    · show 0 + 1 * (_ : ℕ) = _; rw [Nat.zero_add, Nat.one_mul]; rfl

end

end Cert.KernelIdeal.RetTile

end
-- ==== Proof.Ret.Blocks.lean ====
/-
  The blocks a grid point stages, as the model's chunks and tables: point `t` is chunk `t % 32` of sequence `t / 32`.
-/
module

public import proofs.«01_k».proof.Proof.Gen.KernelIdeal.Value
public import proofs.«01_k».proof.Proof.Ret.Host
public import proofs.«01_k».proof.Proof.Ret.Tile
public import Idealize.ShloMosaic.Lib.Pipeline.ValueKit

@[expose] public section

set_option maxRecDepth 16384

noncomputable section

namespace Cert.KernelIdeal.RetBlocks

open Idealize.ShloMosaic Idealize.ShloMosaic.TcCoe Idealize.SL
open Cert.KernelIdeal Cert.KernelIdeal.Gen Cert.Proof.Ret Cert.KernelIdeal.RetTile

variable (m : (ℓ : Loc nD τ sig) → Buf (Elt Ideal) ℓ)

/-- There are 256 grid points. -/
theorem point_lt (t : Fin cfg0.N) : t.val < 256 := Nat.lt_of_lt_of_eq t.isLt (by decide +kernel)

theorem block_0 (c : Dev nD) (t : Fin cfg0.N) (i : Fin 128) (w : Fin 2048) :
    X0_0 m c t (ix2 i w)
      = V m c main_v5 (ix2 (⟨t.val * 128 + i.val, by have := point_lt t; omega⟩ : Fin 32768) (⟨w.val, by omega⟩ : Fin 3200)) := by
  have idx : ∀ t : Fin cfg0.N, win0_0.index t = ![t.val, 0] := by decide +kernel
  unfold X0_0 Pipeline.Window.fill
  rw [dif_pos (moved0_0 t _)]
  blk_simp [iblk, idx t]
  blk_ext [idx t]

theorem block_1 (c : Dev nD) (t : Fin cfg0.N) (i d : Fin 128) :
    iblk m c 1 t (ix2 i d) = V m c main_v25 (ix2 (⟨t.val % 32 * 128 + i.val, by omega⟩ : Fin 4096) d) := by
  have idx : ∀ t : Fin cfg0.N, win0_1.index t = ![t.val % 32, 0] := by decide +kernel
  blk_simp [iblk, idx t]
  blk_ext [idx t]

theorem block_2 (c : Dev nD) (t : Fin cfg0.N) (i d : Fin 128) :
    iblk m c 2 t (ix2 i d) = V m c main_v27 (ix2 (⟨t.val % 32 * 128 + i.val, by omega⟩ : Fin 4096) d) := by
  have idx : ∀ t : Fin cfg0.N, win0_2.index t = ![t.val % 32, 0] := by decide +kernel
  blk_simp [iblk, idx t]
  blk_ext [idx t]

theorem block_3 (c : Dev nD) (t : Fin cfg0.N) (h : Fin 4) (i d : Fin 128) : iblk m c 3 t (ix3 h i d) = V m c main_v53 (ix3 h i d) := by
  have idx : ∀ t : Fin cfg0.N, win0_3.index t = ![0, 0, 0] := by decide +kernel
  blk_simp [iblk, idx t]
  blk_ext [idx t]

theorem block_4 (c : Dev nD) (t : Fin cfg0.N) (h : Fin 4) (i d : Fin 128) : iblk m c 4 t (ix3 h i d) = V m c main_v74 (ix3 h i d) := by
  have idx : ∀ t : Fin cfg0.N, win0_4.index t = ![0, 0, 0] := by decide +kernel
  blk_simp [iblk, idx t]
  blk_ext [idx t]

theorem block_5 (c : Dev nD) (t : Fin cfg0.N) (h : Fin 4) (i d : Fin 128) : iblk m c 5 t (ix3 h i d) = V m c main_v76 (ix3 h i d) := by
  have idx : ∀ t : Fin cfg0.N, win0_5.index t = ![0, 0, 0] := by decide +kernel
  blk_simp [iblk, idx t]
  blk_ext [idx t]

theorem block_6 (c : Dev nD) (t : Fin cfg0.N) (h : Fin 4) (i d : Fin 128) : iblk m c 6 t (ix3 h i d) = V m c main_v78 (ix3 h i d) := by
  have idx : ∀ t : Fin cfg0.N, win0_6.index t = ![0, 0, 0] := by decide +kernel
  blk_simp [iblk, idx t]
  blk_ext [idx t]

theorem block_7 (c : Dev nD) (t : Fin cfg0.N) (w : Fin 512) : iblk m c 7 t (ix2 0 w) = V m c main_v80 (ix2 0 w) := by
  have idx : ∀ t : Fin cfg0.N, win0_7.index t = ![0, 0] := by decide +kernel
  blk_simp [iblk, idx t]
  blk_ext [idx t]

end Cert.KernelIdeal.RetBlocks

end
-- ==== Proof.Ret.Point.lean ====
/-
  The blocks of a grid point as the model's chunks and tables: point `t` is chunk `t % 32` of sequence `t / 32`.
-/
module

public import proofs.«01_k».proof.Proof.Ret.Blocks

@[expose] public section

set_option maxRecDepth 16384

noncomputable section

namespace Cert.KernelIdeal.RetPoint

open Idealize.ShloMosaic Idealize.ShloMosaic.TcCoe Idealize.SL
open Cert.KernelIdeal Cert.KernelIdeal.Gen Cert.Proof.Ret Cert.KernelIdeal.RetTile Cert.KernelIdeal.RetBlocks Cert.KernelIdeal.RetHost

variable (m : (ℓ : Loc nD τ sig) → Buf (Elt Ideal) ℓ)

/-- A result index by its parts. -/
theorem ix3_congr {a a' : Fin 8} {l l' : Fin 4096} {d d' : Fin 512} (ha : a.val = a'.val) (hl : l.val = l'.val) (hd : d.val = d'.val) :
    (ix3 a l d : S8x4096x512.Idx) = ix3 a' l' d' := by
  obtain rfl := Fin.ext ha
  obtain rfl := Fin.ext hl
  obtain rfl := Fin.ext hd
  rfl

/-- The sequence and the chunk of a point. -/
def seqOf (t : Fin cfg0.N) : Fin 8 := ⟨t.val / 32, by have := point_lt t; omega⟩

/-- Argument 0 as sequences. -/
def seqs_0 (c : Dev nD) : Seqs := fun b l d => m ((c.tc).loc main_arg0) (ix3 b l d)

theorem part_0 (c : Dev nD) (t : Fin cfg0.N) (h : Fin 4) :
    part (X0_0 m c t) 0 h = chunk (seqs_0 m c) (seqOf t) h (t.val % 32) := by
  funext i d
  have ht := point_lt t
  have hw : (⟨512 * (0 : Fin 4).val + 128 * h.val + d.val, by omega⟩ : Fin 3200) = ⟨(⟨128 * h.val + d.val, by omega⟩ : Fin 512).val, by show (128 * h.val + d.val) < 3200; omega⟩ :=
    Fin.ext (by show 512 * 0 + 128 * h.val + d.val = (128 * h.val + d.val); omega)
  refine (block_0 m c t i ⟨512 * (0 : Fin 4).val + 128 * h.val + d.val, by omega⟩).trans ?_
  refine (congrArg (fun w : Fin 3200 => V m c main_v5 (ix2 (⟨t.val * 128 + i.val, by omega⟩ : Fin 32768) w)) hw).trans ?_
  refine (proj_0 m c ⟨t.val * 128 + i.val, by omega⟩ ⟨128 * h.val + d.val, by omega⟩).trans ?_
  refine congrArg (m ((c.tc).loc main_arg0)) (ix3_congr ?_ ?_ ?_)
  · show (t.val * 128 + i.val) / 4096 = t.val / 32; omega
  · show (t.val * 128 + i.val) % 4096 = (t.val % 32 * 128 + i.val) % 4096; omega
  · show 128 * h.val + d.val = h.val * 128 + d.val; omega

/-- Argument 1 as sequences. -/
def seqs_1 (c : Dev nD) : Seqs := fun b l d => m ((c.tc).loc main_arg1) (ix3 b l d)

theorem part_1 (c : Dev nD) (t : Fin cfg0.N) (h : Fin 4) :
    part (X0_0 m c t) 1 h = chunk (seqs_1 m c) (seqOf t) h (t.val % 32) := by
  funext i d
  have ht := point_lt t
  have hw : (⟨512 * (1 : Fin 4).val + 128 * h.val + d.val, by omega⟩ : Fin 3200) = ⟨512 + (⟨128 * h.val + d.val, by omega⟩ : Fin 512).val, by show 512 + (128 * h.val + d.val) < 3200; omega⟩ :=
    Fin.ext (by show 512 * 1 + 128 * h.val + d.val = 512 + (128 * h.val + d.val); omega)
  refine (block_0 m c t i ⟨512 * (1 : Fin 4).val + 128 * h.val + d.val, by omega⟩).trans ?_
  refine (congrArg (fun w : Fin 3200 => V m c main_v5 (ix2 (⟨t.val * 128 + i.val, by omega⟩ : Fin 32768) w)) hw).trans ?_
  refine (proj_1 m c ⟨t.val * 128 + i.val, by omega⟩ ⟨128 * h.val + d.val, by omega⟩).trans ?_
  refine congrArg (m ((c.tc).loc main_arg1)) (ix3_congr ?_ ?_ ?_)
  · show (t.val * 128 + i.val) / 4096 = t.val / 32; omega
  · show (t.val * 128 + i.val) % 4096 = (t.val % 32 * 128 + i.val) % 4096; omega
  · show 128 * h.val + d.val = h.val * 128 + d.val; omega

/-- Argument 2 as sequences. -/
def seqs_2 (c : Dev nD) : Seqs := fun b l d => m ((c.tc).loc main_arg2) (ix3 b l d)

theorem part_2 (c : Dev nD) (t : Fin cfg0.N) (h : Fin 4) :
    part (X0_0 m c t) 2 h = chunk (seqs_2 m c) (seqOf t) h (t.val % 32) := by
  funext i d
  have ht := point_lt t
  have hw : (⟨512 * (2 : Fin 4).val + 128 * h.val + d.val, by omega⟩ : Fin 3200) = ⟨1024 + (⟨128 * h.val + d.val, by omega⟩ : Fin 512).val, by show 1024 + (128 * h.val + d.val) < 3200; omega⟩ :=
    Fin.ext (by show 512 * 2 + 128 * h.val + d.val = 1024 + (128 * h.val + d.val); omega)
  refine (block_0 m c t i ⟨512 * (2 : Fin 4).val + 128 * h.val + d.val, by omega⟩).trans ?_
  refine (congrArg (fun w : Fin 3200 => V m c main_v5 (ix2 (⟨t.val * 128 + i.val, by omega⟩ : Fin 32768) w)) hw).trans ?_
  refine (proj_2 m c ⟨t.val * 128 + i.val, by omega⟩ ⟨128 * h.val + d.val, by omega⟩).trans ?_
  refine congrArg (m ((c.tc).loc main_arg2)) (ix3_congr ?_ ?_ ?_)
  · show (t.val * 128 + i.val) / 4096 = t.val / 32; omega
  · show (t.val * 128 + i.val) % 4096 = (t.val % 32 * 128 + i.val) % 4096; omega
  · show 128 * h.val + d.val = h.val * 128 + d.val; omega

/-- Argument 3 as sequences. -/
def seqs_3 (c : Dev nD) : Seqs := fun b l d => m ((c.tc).loc main_arg3) (ix3 b l d)

theorem part_3 (c : Dev nD) (t : Fin cfg0.N) (h : Fin 4) :
    part (X0_0 m c t) 3 h = chunk (seqs_3 m c) (seqOf t) h (t.val % 32) := by
  funext i d
  have ht := point_lt t
  have hw : (⟨512 * (3 : Fin 4).val + 128 * h.val + d.val, by omega⟩ : Fin 3200) = ⟨1536 + (⟨128 * h.val + d.val, by omega⟩ : Fin 512).val, by show 1536 + (128 * h.val + d.val) < 3200; omega⟩ :=
    Fin.ext (by show 512 * 3 + 128 * h.val + d.val = 1536 + (128 * h.val + d.val); omega)
  refine (block_0 m c t i ⟨512 * (3 : Fin 4).val + 128 * h.val + d.val, by omega⟩).trans ?_
  refine (congrArg (fun w : Fin 3200 => V m c main_v5 (ix2 (⟨t.val * 128 + i.val, by omega⟩ : Fin 32768) w)) hw).trans ?_
  refine (proj_3 m c ⟨t.val * 128 + i.val, by omega⟩ ⟨128 * h.val + d.val, by omega⟩).trans ?_
  refine congrArg (m ((c.tc).loc main_arg3)) (ix3_congr ?_ ?_ ?_)
  · show (t.val * 128 + i.val) / 4096 = t.val / 32; omega
  · show (t.val * 128 + i.val) % 4096 = (t.val % 32 * 128 + i.val) % 4096; omega
  · show 128 * h.val + d.val = h.val * 128 + d.val; omega

theorem cos_block (c : Dev nD) (t : Fin cfg0.N) : tab (iblk m c 1 t) = wideCos (t.val % 32 * 128) := by
  funext i d
  exact (block_1 m c t i d).trans (cos_at m c _ d)

theorem sin_block (c : Dev nD) (t : Fin cfg0.N) : tab (iblk m c 2 t) = wideSin (t.val % 32 * 128) := by
  funext i d
  exact (block_2 m c t i d).trans (sin_at m c _ d)

theorem inner_block (c : Dev nD) (t : Fin cfg0.N) (h : Fin 4) : tabs (iblk m c 3 t) h = innerDecay h := by
  funext i d
  exact (block_3 m c t h i d).trans (inner_at m c h i d)

theorem query_block (c : Dev nD) (t : Fin cfg0.N) (h : Fin 4) : tabs (iblk m c 4 t) h = fun i _ => queryDecay h i := by
  funext i d
  exact (block_4 m c t h i d).trans (query_at m c h i d)

theorem key_block (c : Dev nD) (t : Fin cfg0.N) (h : Fin 4) : tabs (iblk m c 5 t) h = fun i _ => keyDecay h i := by
  funext i d
  exact (block_5 m c t h i d).trans (key_at m c h i d)

theorem chunk_block (c : Dev nD) (t : Fin cfg0.N) (h : Fin 4) : tabs (iblk m c 6 t) h = fun _ _ => chunkDecay h := by
  funext i d
  exact (block_6 m c t h i d).trans (chunk_at m c h i d)

/-- The rotated queries and keys. -/
theorem qrot_block (c : Dev nD) (t : Fin cfg0.N) (h : Fin 4) :
    qrot (X0_0 m c t) (iblk m c 1 t) (iblk m c 2 t) h = queries (seqs_0 m c) (seqOf t) h (t.val % 32) := by
  unfold qrot queries
  rw [cos_block, sin_block, part_0, rot_wide]

theorem krot_block (c : Dev nD) (t : Fin cfg0.N) (h : Fin 4) :
    krot (X0_0 m c t) (iblk m c 1 t) (iblk m c 2 t) h = keys (seqs_1 m c) (seqOf t) h (t.val % 32) := by
  unfold krot keys rotKey
  rw [cos_block, sin_block, part_1, rot_wide]

/-- The state a point leaves, over a state that is the model's before its chunk. -/
theorem headState_point (c : Dev nD) (t : Fin cfg0.N) (S : Fin 4 → Mat)
    (hS : ∀ h, S h = carried (seqs_1 m c) (seqs_2 m c) (seqOf t) h (t.val % 32)) (h : Fin 4) :
    headState (X0_0 m c t) (iblk m c 1 t) (iblk m c 2 t) (iblk m c 5 t) (iblk m c 6 t) S h
      = carried (seqs_1 m c) (seqs_2 m c) (seqOf t) h (t.val % 32 + 1) := by
  unfold headState
  rw [krot_block, part_2, key_block, chunk_block, hS h]
  rfl

/-- The output a point leaves, over such a state. -/
theorem outBlock_point (c : Dev nD) (t : Fin cfg0.N) (S : Fin 4 → Mat)
    (hS : ∀ h, S h = carried (seqs_1 m c) (seqs_2 m c) (seqOf t) h (t.val % 32)) (i : Fin 128) (w : Fin 512) :
    outBlock (X0_0 m c t) (iblk m c 1 t) (iblk m c 2 t) (iblk m c 3 t) (iblk m c 4 t) (iblk m c 7 t) S i w
      = gated (seqs_3 m c (seqOf t) ⟨t.val % 32 * 128 + i.val, by omega⟩ w)
          (headNorm (retention (seqs_0 m c) (seqs_1 m c) (seqs_2 m c) (seqOf t) ⟨w.val / 128, by omega⟩ (t.val % 32)) i
            ⟨w.val % 128, Nat.mod_lt _ (by decide)⟩) (m ((c.tc).loc main_arg4) (ix2 0 w)) := by
  unfold outBlock headOut retention
  rw [krot_block, qrot_block, part_2, part_3, inner_block, query_block, hS]
  have ew : (⟨128 * (w.val / 128) + w.val % 128, by omega⟩ : Fin 512) = w := Fin.ext (by show 128 * (w.val / 128) + w.val % 128 = w.val; omega)
  have hg : chunk (seqs_3 m c) (seqOf t) ⟨w.val / 128, by omega⟩ (t.val % 32) i ⟨w.val % 128, Nat.mod_lt _ (by decide)⟩
      = seqs_3 m c (seqOf t) ⟨t.val % 32 * 128 + i.val, by omega⟩ w := by
    refine congrArg (m ((c.tc).loc main_arg3)) (ix3_congr rfl ?_ ?_)
    · show (t.val % 32 * 128 + i.val) % 4096 = t.val % 32 * 128 + i.val; omega
    · show w.val / 128 * 128 + w.val % 128 = w.val; omega
  have hw : iblk m c 7 t (ix2 0 (⟨128 * (w.val / 128) + w.val % 128, by omega⟩ : Fin 512)) = m ((c.tc).loc main_arg4) (ix2 0 w) :=
    (block_7 m c t _).trans ((weight m c _).trans (congrArg (fun x : Fin 512 => m ((c.tc).loc main_arg4) (ix2 0 x)) ew))
  rw [hg]
  exact congrArg (gated _ _) hw

end Cert.KernelIdeal.RetPoint

end
-- ==== Proof.Ret.Array.lean ====
/-
  The kernel's result array: by induction over the grid points, the carried state is the model's and each block the model's branch.
-/
module

public import proofs.«01_k».proof.Proof.Ret.Point

@[expose] public section

set_option maxRecDepth 16384

noncomputable section

namespace Cert.KernelIdeal.RetArray

open Idealize.ShloMosaic Idealize.ShloMosaic.TcCoe Idealize.SL
open Cert.KernelIdeal Cert.KernelIdeal.Gen Cert.Proof.Ret Cert.KernelIdeal.RetTile Cert.KernelIdeal.RetBlocks Cert.KernelIdeal.RetHost Cert.KernelIdeal.RetPoint

variable (m : (ℓ : Loc nD τ sig) → Buf (Elt Ideal) ℓ)

/-- A point that begins a sequence leaves the model's state after its chunk. -/
theorem state_first (c : Dev nD) (t : Fin cfg0.N) (h0 : t.val % 32 = 0) (h : Fin 4) :
    tabs (outsAt0 m c t.val t.isLt).2 h = carried (seqs_1 m c) (seqs_2 m c) (seqOf t) h (t.val % 32 + 1) := by
  refine Eq.trans ?_ (headState_point m c t (fun _ _ _ => 0) (fun h => by rw [h0]; rfl) h)
  funext d v
  unfold tabs
  rw [outsAt0_A m c t h0]
  have e := state_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (X0_0 m c t) (iblk m c 1 t) (iblk m c 2 t) (iblk m c 3 t) (iblk m c 4 t) (iblk m c 5 t) (iblk m c 6 t) (iblk m c 7 t) ((hcond0_0 t).mpr h0) h d v
  refine Eq.trans ?_ (e.trans ?_) <;> rfl

/-- A point that goes on with a sequence does, if the point before did. -/
theorem state_next (c : Dev nD) (t : Fin cfg0.N) (h0 : ¬t.val % 32 = 0)
    (hS : ∀ h, tabs (outsAt0 m c (t.val - 1) (Nat.lt_of_le_of_lt (Nat.sub_le _ _) t.isLt)).2 h = carried (seqs_1 m c) (seqs_2 m c) (seqOf t) h (t.val % 32)) (h : Fin 4) :
    tabs (outsAt0 m c t.val t.isLt).2 h = carried (seqs_1 m c) (seqs_2 m c) (seqOf t) h (t.val % 32 + 1) := by
  refine Eq.trans ?_ (headState_point m c t _ hS h)
  funext d v
  unfold tabs
  rw [outsAt0_B m c t h0]
  exact state_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2 (fun h => h0 ((hcond0_0 t).mp h)) h d v

/-- The state after point `n` is the model's after chunk `n % 32` of sequence `n / 32`. -/
theorem state_after (c : Dev nD) (n : ℕ) : ∀ (hn : n < cfg0.N) (h : Fin 4),
    tabs (outsAt0 m c n hn).2 h = carried (seqs_1 m c) (seqs_2 m c) (seqOf ⟨n, hn⟩) h (n % 32 + 1) := by
  induction n with
  | zero => exact fun hn h => state_first m c ⟨0, hn⟩ rfl h
  | succ k ih =>
    intro hn h
    by_cases h0 : (k + 1) % 32 = 0
    · exact state_first m c ⟨k + 1, hn⟩ h0 h
    · refine state_next m c ⟨k + 1, hn⟩ h0 (fun h => ?_) h
      have es : seqOf ⟨k + 1, hn⟩ = seqOf ⟨k, Nat.lt_of_succ_lt hn⟩ := Fin.ext (by show (k + 1) / 32 = k / 32; omega)
      have en : (k + 1) % 32 = k % 32 + 1 := by omega
      refine (ih (Nat.lt_of_succ_lt hn) h).trans ?_
      show carried _ _ (seqOf ⟨k, Nat.lt_of_succ_lt hn⟩) h (k % 32 + 1) = carried _ _ (seqOf ⟨k + 1, hn⟩) h ((k + 1) % 32)
      rw [es, en]

/-- The block that point `t` leaves. -/
theorem block_after (c : Dev nD) (t : Fin cfg0.N) (i : Fin 128) (w : Fin 512) :
    (outsAt0 m c t.val t.isLt).1 (ix2 i w)
      = gated (seqs_3 m c (seqOf t) ⟨t.val % 32 * 128 + i.val, by omega⟩ w)
          (headNorm (retention (seqs_0 m c) (seqs_1 m c) (seqs_2 m c) (seqOf t) ⟨w.val / 128, by omega⟩ (t.val % 32)) i
            ⟨w.val % 128, Nat.mod_lt _ (by decide)⟩) (m ((c.tc).loc main_arg4) (ix2 0 w)) := by
  by_cases h0 : t.val % 32 = 0
  · rw [outsAt0_A m c t h0]
    refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (X0_0 m c t) (iblk m c 1 t) (iblk m c 2 t) (iblk m c 3 t) (iblk m c 4 t) (iblk m c 5 t) (iblk m c 6 t) (iblk m c 7 t) ((hcond0_0 t).mpr h0) i w).trans ?_
    exact outBlock_point m c t _ (fun h => by rw [h0]; rfl) i w
  · rw [outsAt0_B m c t h0]
    refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2 (fun h => h0 ((hcond0_0 t).mp h)) i w).trans ?_
    refine outBlock_point m c t _ (fun h => ?_) i w
    obtain ⟨n, hn⟩ := t
    obtain ⟨k, rfl⟩ : ∃ k, n = k + 1 := ⟨n - 1, by simp only at h0; omega⟩
    have hk : k < cfg0.N := Nat.lt_of_succ_lt hn
    have es : seqOf ⟨k + 1, hn⟩ = seqOf ⟨k, hk⟩ := Fin.ext (by simp only at h0; show (k + 1) / 32 = k / 32; omega)
    have en : (k + 1) % 32 = k % 32 + 1 := by simp only at h0; omega
    show tabs (outsAt0 m c k hk).2 h = carried _ _ (seqOf ⟨k + 1, hn⟩) h ((k + 1) % 32)
    rw [es, en]
    exact state_after m c k hk h

/-- The result array at row `r`, column `w`. -/
theorem result_at (c : Dev nD) (r : Fin 32768) (w : Fin 512) :
    (dats m 0 c).arrAt 8 cfg0.N (ix2 r w)
      = gated (seqs_3 m c ⟨r.val / 4096, by omega⟩ ⟨r.val % 4096, by omega⟩ w)
          (headNorm (retention (seqs_0 m c) (seqs_1 m c) (seqs_2 m c) ⟨r.val / 4096, by omega⟩ ⟨w.val / 128, by omega⟩ (r.val % 4096 / 128))
            ⟨r.val % 4096 % 128, by omega⟩ ⟨w.val % 128, by omega⟩) (m ((c.tc).loc main_arg4) (ix2 0 w)) := by
  have hN : cfg0.N = 256 := by decide +kernel
  let t : Fin cfg0.N := ⟨r.val / 128, by omega⟩
  have idx : ∀ t : Fin cfg0.N, win0_8.index t = ![t.val, 0] := by decide +kernel
  have fl : ∀ t : Fin cfg0.N, (cfg0.win 8).flush t = true := by decide +kernel
  have hb := congrFun (Value.blocks8 m c t (fl t)) (ix2 (⟨r.val % 128, by omega⟩ : Fin 128) w)
  have he : ((cfg0.win 8).blk t).view.emb (ix2 (⟨r.val % 128, by omega⟩ : Fin 128) w) = (ix2 r w : S32768x512.Idx) := by
    blk_ext [idx t]
    show r.val / 128 * 128 + r.val % 128 = r.val
    omega
  have hl : ((cfg0.win 8).blk t).view.read (Elt Ideal) ((dats m 0 c).arrAt 8 cfg0.N) (ix2 (⟨r.val % 128, by omega⟩ : Fin 128) w)
      = (dats m 0 c).arrAt 8 cfg0.N (ix2 r w) := congrArg ((dats m 0 c).arrAt 8 cfg0.N) he
  refine hl.symm.trans (hb.trans ?_)
  rw [Value.flushed8]
  refine (block_after m c t ⟨r.val % 128, by omega⟩ w).trans ?_
  have e1 : seqOf t = ⟨r.val / 4096, by omega⟩ := Fin.ext (by show r.val / 128 / 32 = r.val / 4096; omega)
  have e2 : t.val % 32 = r.val % 4096 / 128 := by show r.val / 128 % 32 = _; omega
  have e3 : (⟨t.val % 32 * 128 + (⟨r.val % 128, by omega⟩ : Fin 128).val, by show t.val % 32 * 128 + r.val % 128 < 4096; omega⟩ : Fin 4096) = ⟨r.val % 4096, by omega⟩ :=
    Fin.ext (by show r.val / 128 % 32 * 128 + r.val % 128 = r.val % 4096; omega)
  have e4 : (⟨r.val % 128, by omega⟩ : Fin 128) = ⟨r.val % 4096 % 128, by omega⟩ := Fin.ext (by show r.val % 128 = r.val % 4096 % 128; omega)
  rw [e3, e1, e2, e4]

end Cert.KernelIdeal.RetArray

end
-- ==== Proof.Ret.RefOut.lean ====
/-
  The reference's last step, head norm, weight and gate, at an index.
-/
module

public import proofs.«01_k».proof.Proof.Gen.ReferenceIdeal.Step
public import proofs.«01_k».proof.Proof.Ret.Model

@[expose] public section

set_option maxRecDepth 16384

noncomputable section

namespace Cert.ReferenceIdeal.RetRef

open Idealize.ShloMosaic
open Cert.ReferenceIdeal Cert.ReferenceIdeal.Gen Cert.ReferenceIdeal.Step Cert.Proof.Ret

/-- Head `h` of chunk `n` of sequence `b` of the stacked outputs. -/
def stackedHead (s : State Ideal) (n : Fin 32) (b : Fin 8) (h : Fin 4) : Mat := fun i v => s.main_v129_9 (ix5 n b h i v)

theorem result_at (s : State Ideal) (g : (⟨S8x4096x512, .f32⟩ : BufTy).Contents (Elt Ideal)) (w : (⟨S1x512, .f32⟩ : BufTy).Contents (Elt Ideal))
    (r : Fin 32768) (c : Fin 512) :
    R_main_v157 (F := Ideal) s g w (ix2 r c)
      = gated (g (ix3 ⟨r.val / 4096, by omega⟩ ⟨r.val % 4096, by omega⟩ c))
          (headNorm (stackedHead s ⟨r.val % 4096 / 128, by omega⟩ ⟨r.val / 4096, by omega⟩ ⟨c.val / 128, by omega⟩)
            ⟨r.val % 4096 % 128, by omega⟩ ⟨c.val % 128, by omega⟩) (w (ix2 0 c)) := by
  unfold R_main_v157
  pointwise [gated, headNorm, centred, rowMean, stackedHead, Ideal.logistic]

end Cert.ReferenceIdeal.RetRef

end
-- ==== Proof.Ret.RefTables.lean ====
/-
  The reference's rotary and decay tables at an index.
-/
module

public import proofs.«01_k».proof.Proof.Gen.ReferenceIdeal.Step
public import proofs.«01_k».proof.Proof.Ret.Model

@[expose] public section

set_option maxRecDepth 16384

noncomputable section

namespace Cert.ReferenceIdeal.RetRef

open Idealize.ShloMosaic
open Cert.ReferenceIdeal Cert.ReferenceIdeal.Gen Cert.ReferenceIdeal.Step Cert.Proof.Ret

theorem angle_q (p : Fin 4096) (k : Fin 64) : K_main_v17 (F := Ideal) (ix2 p k) = angle p k := by
  unfold K_main_v17 K_main_v15 K_main_v16 K_main_v13 K_main_v14 K_main_v11 K_main_v12 K_main_v10 K_main_v9 K_main_v8 K_main_v7 K_main_v6 K_main_v5 K_main_v4 K_main_v3 K_main_v2 K_main_v1 K_main_cst K_main_cst_0 K_main_cst_1 K_main_cst_2 K_main_cst_3
  pointwise [angle, num]

theorem angle_k (p : Fin 4096) (k : Fin 64) : K_main_v52 (F := Ideal) (ix2 p k) = angle p k := by
  unfold K_main_v52 K_main_v50 K_main_v51 K_main_v48 K_main_v49 K_main_v46 K_main_v47 K_main_v45 K_main_v44 K_main_v43 K_main_v42 K_main_v41 K_main_v40 K_main_v39 K_main_v38 K_main_v37 K_main_v36 K_main_cst_4 K_main_cst_5 K_main_cst_6 K_main_cst_7 K_main_cst_8
  pointwise [angle, num]

theorem log_decay (h : Fin 4) : K_main_v80 (F := Ideal) (ix1 h) = logDecay h := by
  unfold K_main_v80 K_main_v79 K_main_v78 K_main_cst_12 K_main_v77 K_main_v76 K_main_cst_11 K_main_v75 K_main_v74 K_main_cst_10 K_main_v73
  pointwise [logDecay, num]

theorem inner_at (h : Fin 4) (i j : Fin 128) : K_main_v98 (F := Ideal) (ix3 h i j) = innerDecay h i j := by
  unfold K_main_v98 K_main_call0_v1 K_main_call0_v2 K_main_call0_v0 K_main_cst_15 K_main_v97 K_main_v96 K_main_v95 K_main_v94 K_main_v93 K_main_v92 K_main_v91 K_main_v90 K_main_cst_14 K_main_v89 K_main_v88 K_main_cst_13 K_main_v87 K_main_v86 K_main_v85 K_main_v84 K_main_v83 K_main_v82 K_main_v81
  pointwise [innerDecay, num, log_decay, id_eq]

theorem query_decay_at (h : Fin 4) (i : Fin 128) : K_main_v107 (F := Ideal) (ix4 0 h i 0) = queryDecay h i := by
  unfold K_main_v107 K_main_v106 K_main_v105 K_main_v104 K_main_v103 K_main_v102 K_main_v101 K_main_v100 K_main_cst_16 K_main_v99 K_main_v81
  pointwise [queryDecay, num, log_decay]

theorem key_decay_at (h : Fin 4) (i : Fin 128) : K_main_v116 (F := Ideal) (ix4 0 h i 0) = keyDecay h i := by
  unfold K_main_v116 K_main_v115 K_main_v114 K_main_v113 K_main_v112 K_main_v111 K_main_v110 K_main_v109 K_main_cst_17 K_main_v108 K_main_v81
  pointwise [keyDecay, num, log_decay]

theorem chunk_decay_at (h : Fin 4) : K_main_v120 (F := Ideal) (ix4 0 h 0 0) = chunkDecay h := by
  unfold K_main_v120 K_main_v119 K_main_v118 K_main_v117 K_main_cst_18
  pointwise [chunkDecay, num, log_decay]

end Cert.ReferenceIdeal.RetRef

end
-- ==== Proof.Ret.RefArgs.lean ====
/-
  The reference's chunked queries, keys and values at an index.
-/
module

public import proofs.«01_k».proof.Proof.Ret.RefTables
public import proofs.«01_k».proof.Proof.Ret.Model

@[expose] public section

set_option maxRecDepth 16384

noncomputable section

namespace Cert.ReferenceIdeal.RetRef

open Idealize.ShloMosaic
open Cert.ReferenceIdeal Cert.ReferenceIdeal.Gen Cert.ReferenceIdeal.Step Cert.Proof.Ret

variable (x0 x1 x2 : (⟨S8x4096x512, .f32⟩ : BufTy).Contents (Elt Ideal))

/-- An array of sequences by its coordinates. -/
def seqs (x : (⟨S8x4096x512, .f32⟩ : BufTy).Contents (Elt Ideal)) : Seqs := fun b l c => x (ix3 b l c)

theorem chunk_of_lt (x : (⟨S8x4096x512, .f32⟩ : BufTy).Contents (Elt Ideal)) (b : Fin 8) (h : Fin 4) (n : Fin 32) (i d : Fin 128) :
    chunk (seqs x) b h n i d = x (ix3 b ⟨n.val * 128 + i.val, by omega⟩ ⟨h.val * 128 + d.val, by omega⟩) := by
  have e : (⟨(n.val * 128 + i.val) % 4096, Nat.mod_lt _ (by decide)⟩ : Fin 4096) = ⟨n.val * 128 + i.val, by omega⟩ :=
    Fin.ext (Nat.mod_eq_of_lt (by omega))
  unfold chunk seqs
  rw [e]

/-- The transposition of chunks to the front at an index. -/
theorem chunks_first (y : (⟨S8x32x128x4x128, .f32⟩ : BufTy).Contents (Elt Ideal)) (n : Fin 32) (b : Fin 8) (h : Fin 4) (i d : Fin 128) :
    transpose S32x8x4x128x128 [1, 0, 3, 2, 4] y transposes_S8x32x128x4x128_S32x8x4x128x128_1_0_3_2_4 (ix5 n b h i d) = y (ix5 b n i h d) := by
  pointwise

theorem values_split (b : Fin 8) (l : Fin 4096) (h : Fin 4) (d : Fin 128) :
    A_main_v72 (F := Ideal) x0 x1 x2 (ix4 b l h d) = x2 (ix3 b l ⟨h.val * 128 + d.val, by omega⟩) := by
  unfold A_main_v72
  pointwise

theorem values_chunked (n : Fin 32) (b : Fin 8) (h : Fin 4) (i d : Fin 128) :
    A_main_v126 (F := Ideal) x0 x1 x2 (ix5 b n i h d) = A_main_v72 x0 x1 x2 (ix4 b ⟨n.val * 128 + i.val, by omega⟩ h d) := by
  unfold A_main_v126
  pointwise

theorem values_at (n : Fin 32) (b : Fin 8) (h : Fin 4) (i d : Fin 128) :
    A_main_v127 (F := Ideal) x0 x1 x2 (ix5 n b h i d) = chunk (seqs x2) b h n i d := by
  rw [chunk_of_lt, ← values_split x0 x1 x2, ← values_chunked]
  unfold A_main_v127
  pointwise

theorem queries_split (b : Fin 8) (l : Fin 4096) (h : Fin 4) (d : Fin 128) :
    A_main_v0 (F := Ideal) x0 x1 x2 (ix4 b l h d) = x0 (ix3 b l ⟨h.val * 128 + d.val, by omega⟩) := by
  unfold A_main_v0
  pointwise

theorem queries_low (b : Fin 8) (l : Fin 4096) (h : Fin 4) (k : Fin 64) :
    A_main_v28 (F := Ideal) x0 x1 x2 (ix4 b l h k)
      = A_main_v0 x0 x1 x2 (ix4 b l h ⟨k.val, by omega⟩) * Ideal.cos (angle l k)
        - A_main_v0 x0 x1 x2 (ix4 b l h ⟨64 + k.val, by omega⟩) * Ideal.sin (angle l k) := by
  unfold A_main_v28 A_main_v27 A_main_v25 A_main_v23 A_main_v22 K_main_v24 K_main_v26 K_main_v21 K_main_v20 K_main_v19 K_main_v18
  pointwise [angle_q]

theorem queries_high (b : Fin 8) (l : Fin 4096) (h : Fin 4) (k : Fin 64) :
    A_main_v33 (F := Ideal) x0 x1 x2 (ix4 b l h k)
      = A_main_v0 x0 x1 x2 (ix4 b l h ⟨k.val, by omega⟩) * Ideal.sin (angle l k)
        + A_main_v0 x0 x1 x2 (ix4 b l h ⟨64 + k.val, by omega⟩) * Ideal.cos (angle l k) := by
  unfold A_main_v33 A_main_v32 A_main_v30 A_main_v23 A_main_v22 K_main_v29 K_main_v31 K_main_v21 K_main_v20 K_main_v19 K_main_v18
  pointwise [angle_q]

theorem queries_halves (b : Fin 8) (l : Fin 4096) (h : Fin 4) (d : Fin 128) :
    A_main_v34 (F := Ideal) x0 x1 x2 (ix4 b l h d)
      = if h1 : d.val < 64 then A_main_v28 x0 x1 x2 (ix4 b l h ⟨d.val, h1⟩) else A_main_v33 x0 x1 x2 (ix4 b l h ⟨d.val - 64, by omega⟩) := by
  unfold A_main_v34
  pointwise

theorem queries_rotated (b : Fin 8) (h : Fin 4) (n : Fin 32) (i d : Fin 128) :
    A_main_v34 (F := Ideal) x0 x1 x2 (ix4 b ⟨n.val * 128 + i.val, by omega⟩ h d) = rotary (n * 128) (chunk (seqs x0) b h n) i d := by
  rw [queries_halves]
  unfold rotary
  by_cases hd : d.val < 64
  · rw [dif_pos hd, dif_pos hd, queries_low, queries_split, queries_split, chunk_of_lt, chunk_of_lt]
  · have e : (⟨64 + (d.val - 64), by omega⟩ : Fin 128) = d := Fin.ext (by show 64 + (d.val - 64) = d.val; omega)
    rw [dif_neg hd, dif_neg hd, queries_high, e, queries_split, queries_split, chunk_of_lt, chunk_of_lt]

theorem queries_chunked (n : Fin 32) (b : Fin 8) (h : Fin 4) (i d : Fin 128) :
    A_main_v122 (F := Ideal) x0 x1 x2 (ix5 b n i h d) = A_main_v34 x0 x1 x2 (ix4 b ⟨n.val * 128 + i.val, by omega⟩ h d) := by
  unfold A_main_v122
  pointwise

theorem queries_at (n : Fin 32) (b : Fin 8) (h : Fin 4) (i d : Fin 128) :
    A_main_v123 (F := Ideal) x0 x1 x2 (ix5 n b h i d) = queries (seqs x0) b h n i d := by
  exact (chunks_first (A_main_v122 x0 x1 x2) n b h i d).trans ((queries_chunked x0 x1 x2 n b h i d).trans (queries_rotated x0 x1 x2 b h n i d))

theorem keys_split (b : Fin 8) (l : Fin 4096) (h : Fin 4) (d : Fin 128) :
    A_main_v35 (F := Ideal) x0 x1 x2 (ix4 b l h d) = x1 (ix3 b l ⟨h.val * 128 + d.val, by omega⟩) := by
  unfold A_main_v35
  pointwise

theorem keys_low (b : Fin 8) (l : Fin 4096) (h : Fin 4) (k : Fin 64) :
    A_main_v63 (F := Ideal) x0 x1 x2 (ix4 b l h k)
      = A_main_v35 x0 x1 x2 (ix4 b l h ⟨k.val, by omega⟩) * Ideal.cos (angle l k)
        - A_main_v35 x0 x1 x2 (ix4 b l h ⟨64 + k.val, by omega⟩) * Ideal.sin (angle l k) := by
  unfold A_main_v63 A_main_v62 A_main_v60 A_main_v58 A_main_v57 K_main_v59 K_main_v61 K_main_v56 K_main_v55 K_main_v54 K_main_v53
  pointwise [angle_k]

theorem keys_high (b : Fin 8) (l : Fin 4096) (h : Fin 4) (k : Fin 64) :
    A_main_v68 (F := Ideal) x0 x1 x2 (ix4 b l h k)
      = A_main_v35 x0 x1 x2 (ix4 b l h ⟨k.val, by omega⟩) * Ideal.sin (angle l k)
        + A_main_v35 x0 x1 x2 (ix4 b l h ⟨64 + k.val, by omega⟩) * Ideal.cos (angle l k) := by
  unfold A_main_v68 A_main_v67 A_main_v65 A_main_v58 A_main_v57 K_main_v64 K_main_v66 K_main_v56 K_main_v55 K_main_v54 K_main_v53
  pointwise [angle_k]

theorem keys_halves (b : Fin 8) (l : Fin 4096) (h : Fin 4) (d : Fin 128) :
    A_main_v69 (F := Ideal) x0 x1 x2 (ix4 b l h d)
      = if h1 : d.val < 64 then A_main_v63 x0 x1 x2 (ix4 b l h ⟨d.val, h1⟩) else A_main_v68 x0 x1 x2 (ix4 b l h ⟨d.val - 64, by omega⟩) := by
  unfold A_main_v69
  pointwise

theorem keys_rotated (b : Fin 8) (h : Fin 4) (n : Fin 32) (i d : Fin 128) :
    A_main_v69 (F := Ideal) x0 x1 x2 (ix4 b ⟨n.val * 128 + i.val, by omega⟩ h d) = rotary (n * 128) (chunk (seqs x1) b h n) i d := by
  rw [keys_halves]
  unfold rotary
  by_cases hd : d.val < 64
  · rw [dif_pos hd, dif_pos hd, keys_low, keys_split, keys_split, chunk_of_lt, chunk_of_lt]
  · have e : (⟨64 + (d.val - 64), by omega⟩ : Fin 128) = d := Fin.ext (by show 64 + (d.val - 64) = d.val; omega)
    rw [dif_neg hd, dif_neg hd, keys_high, e, keys_split, keys_split, chunk_of_lt, chunk_of_lt]

theorem keys_scaled (b : Fin 8) (l : Fin 4096) (h : Fin 4) (d : Fin 128) :
    A_main_v71 (F := Ideal) x0 x1 x2 (ix4 b l h d) = A_main_v69 x0 x1 x2 (ix4 b l h d) * keyScale := by
  unfold A_main_v71 K_main_v70 K_main_cst_9
  pointwise [keyScale]

theorem keys_chunked (n : Fin 32) (b : Fin 8) (h : Fin 4) (i d : Fin 128) :
    A_main_v124 (F := Ideal) x0 x1 x2 (ix5 b n i h d) = A_main_v71 x0 x1 x2 (ix4 b ⟨n.val * 128 + i.val, by omega⟩ h d) := by
  unfold A_main_v124
  pointwise

theorem keys_at (n : Fin 32) (b : Fin 8) (h : Fin 4) (i d : Fin 128) :
    A_main_v125 (F := Ideal) x0 x1 x2 (ix5 n b h i d) = keys (seqs x1) b h n i d := by
  unfold keys
  rw [← keys_rotated x0 x1 x2, ← keys_scaled, ← keys_chunked]
  unfold A_main_v125
  pointwise

end Cert.ReferenceIdeal.RetRef

end
-- ==== Proof.Ret.RefRun.lean ====
/-
  The reference's loop over the chunks as a sequence of states: what a trip carries, that one trip is `step` of the carried
  state, and that the result is a function of the state after the last of the 32 chunks.
-/
module

public import proofs.«01_k».proof.Proof.Gen.ReferenceIdeal.Run
public import proofs.«01_k».proof.Proof.Gen.ReferenceIdeal.Step
public import Idealize.ShloMosaic.Lib.Pointwise

@[expose] public section

set_option maxRecDepth 16384

noncomputable section

namespace Cert.ReferenceIdeal.RetRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init b4 b5 b10 b11 b16 b17 K_main_v98 K_main_v107 K_main_v116 K_main_v120 R_main_v157)

variable {V : Valuation τ sig (Elt Ideal)} {s : State Ideal} {j : ℕ}

/-- Before trip `j` the memory `V` carries the state `s`, the decay tables and the trip's number. -/
structure Carries (V : Valuation τ sig (Elt Ideal)) (s : State Ideal) (j : ℕ) : Prop where
  num : V (Proc.devRef .tc main_v129_7) = constantI S_ 32 (BitVec.ofNat 32 j)
  queries : V (Proc.devRef .tc main_v129_0) = s.main_v129_0
  keys : V (Proc.devRef .tc main_v129_1) = s.main_v129_1
  values : V (Proc.devRef .tc main_v129_2) = s.main_v129_2
  inner : V (Proc.devRef .tc main_v129_3) = K_main_v98 (F := Ideal)
  qdecay : V (Proc.devRef .tc main_v129_4) = K_main_v107 (F := Ideal)
  cdecay : V (Proc.devRef .tc main_v129_5) = K_main_v120 (F := Ideal)
  kdecay : V (Proc.devRef .tc main_v129_6) = K_main_v116 (F := Ideal)
  state : V (Proc.devRef .tc main_v129_8) = s.main_v129_8
  stacked : V (Proc.devRef .tc main_v129_9) = s.main_v129_9

theorem trip_num (h : Carries V s j) : step_main_v129_7 V = constantI S_ 32 (BitVec.ofNat 32 (j + 1)) := by
  unfold step_main_v129_7
  rw [h.num]
  funext i
  exact (BitVec.ofNat_add j 1).symm

theorem trip_queries (h : Carries V s j) : res_main_while0b_v158 V = b5 j s := by
  unfold res_main_while0b_v158 b5 b4
  rw [h.num, h.queries]
  rfl

theorem trip_keys (h : Carries V s j) : res_main_while0b_v159 V = b11 j s := by
  unfold res_main_while0b_v159 b11 b10
  rw [h.num, h.keys]
  rfl

theorem trip_values (h : Carries V s j) : res_main_while0b_v160 V = b17 j s := by
  unfold res_main_while0b_v160 b17 b16
  rw [h.num, h.values]
  rfl

theorem trip_state (h : Carries V s j) : step_main_v129_8 V = (step j s).main_v129_8 := by
  unfold step_main_v129_8
  rw [trip_keys h, trip_values h, h.state, h.cdecay, h.kdecay]
  rfl

theorem trip_stacked (h : Carries V s j) : step_main_v129_9 V = (step j s).main_v129_9 := by
  unfold step_main_v129_9
  rw [trip_queries h, trip_keys h, trip_values h, h.num, h.state, h.inner, h.qdecay, h.stacked]
  rfl

theorem trip (h : Carries V s j) : Carries (STEP V) (step j s) (j + 1) where
  num := (STEP_main_v129_7 V).trans (trip_num h)
  queries := (STEP_main_v129_0 V).trans h.queries
  keys := (STEP_main_v129_1 V).trans h.keys
  values := (STEP_main_v129_2 V).trans h.values
  inner := (STEP_main_v129_3 V).trans h.inner
  qdecay := (STEP_main_v129_4 V).trans h.qdecay
  cdecay := (STEP_main_v129_5 V).trans h.cdecay
  kdecay := (STEP_main_v129_6 V).trans h.kdecay
  state := (STEP_main_v129_8 V).trans (trip_state h)
  stacked := (STEP_main_v129_9 V).trans (trip_stacked h)

/-- The state after `n` chunks, of queries, keys and values. -/
def states (q k v : (⟨S8x4096x512, .f32⟩ : BufTy).Contents (Elt Ideal)) : ℕ → State Ideal
  | 0 => init q k v
  | n + 1 => step n (states q k v n)

variable (m : (ℓ : Loc nD τ sig) → Buf (Elt Ideal) ℓ) (ρ : Dev nD → PrngReg) (c : Dev nD)

set_option maxHeartbeats 1000000 in
theorem before : Carries (entryContents preI m c)
    (init (m ((c.tc : Thread nD τ).loc main_arg0)) (m ((c.tc : Thread nD τ).loc main_arg1)) (m ((c.tc : Thread nD τ).loc main_arg2))) 0 := by
  constructor <;> (simp only [entryContents, afterL_cons, afterL_nil]; after_reads_simp) <;> rfl

theorem carries_states : ∀ n, Carries (STEP^[n] (entryContents preI m c))
    (states (m ((c.tc : Thread nD τ).loc main_arg0)) (m ((c.tc : Thread nD τ).loc main_arg1)) (m ((c.tc : Thread nD τ).loc main_arg2)) n) n
  | 0 => before m c
  | n + 1 => by
    rw [Function.iterate_succ_apply']
    exact trip (carries_states n)

/-- The result, of the state after all chunks, the gates and the norm's weight; the arguments unchanged. -/
theorem run : θ_run (defs (F := Ideal)) (onTc (τ := τ) (main (F := Ideal))) ⟨m, fun _ => 0, ρ⟩ fun r => ∀ c : Dev nD,
    r.2.mem ((c.tc : Thread nD τ).loc main_v157)
        = R_main_v157 (states (m ((c.tc : Thread nD τ).loc main_arg0)) (m ((c.tc : Thread nD τ).loc main_arg1)) (m ((c.tc : Thread nD τ).loc main_arg2)) 32)
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Value.run m ρ)
  unfold out_main_v157
  rw [(carries_states m c 32).stacked, iter_main_arg3 m c 32, iter_main_arg4 m c 32]
  rfl

end Cert.ReferenceIdeal.RetRun

end
-- ==== Proof.Ret.RefLoop.lean ====
/-
  The reference's loop at an index: the state it carries after `n` chunks is the model's, and so is every chunk's stacked output.
-/
module

public import proofs.«01_k».proof.Proof.Ret.RefArgs
public import proofs.«01_k».proof.Proof.Ret.RefRun
public import Idealize.ShloMosaic.Lib.WordCmp

@[expose] public section

set_option maxRecDepth 16384

noncomputable section

namespace Cert.ReferenceIdeal.RetRef

open Idealize.ShloMosaic Idealize.ShloMosaic.WordCmp
open Cert.ReferenceIdeal Cert.ReferenceIdeal.Gen Cert.ReferenceIdeal.Step Cert.Proof.Ret
open Cert.ReferenceIdeal.RetRun (states)

/-- A start vector whose first entry is a trip's number. -/
theorem start_eq (j : Fin 32) (z1 z2 z3 z4 : (⟨S_, .i32⟩ : BufTy).Contents (Elt Ideal))
    (h1 : z1 = constantI S_ 32 0#32) (h2 : z2 = constantI S_ 32 0#32) (h3 : z3 = constantI S_ 32 0#32) (h4 : z4 = constantI S_ 32 0#32)
    (a : Fin 5) :
    (((![(constantI S_ 32 (BitVec.ofNat 32 j.val) : (⟨S_, .i32⟩ : BufTy).Contents (Elt Ideal)), z1, z2, z3, z4] :
      Fin 5 → (⟨S_, .i32⟩ : BufTy).Contents (Elt Ideal))) a (Shape.Idx.first h_S_)).toInt = (((![j.val, 0, 0, 0, 0] : Fin 5 → ℕ) a : ℕ) : Int) := by
  subst h1 h2 h3 h4
  fin_cases a
  · exact toInt_ofNat_of_lt (by have := j.isLt; omega)
  all_goals rfl

theorem fits (j : Fin 32) : S32x8x4x128x128.Slices (![j.val, 0, 0, 0, 0] : Fin 5 → ℕ) S1x8x4x128x128 :=
  ⟨rfl, fun a => by have := j.isLt; fin_cases a <;> simp <;> omega⟩

/-- One chunk of an array of chunks. -/
theorem slice_at (x : (⟨S32x8x4x128x128, .f32⟩ : BufTy).Contents (Elt Ideal)) (j : Fin 32) (start : Fin 5 → Int)
    (hs : ∀ a, start a = (((![j.val, 0, 0, 0, 0] : Fin 5 → ℕ) a : ℕ) : Int)) (b : Fin 8) (h : Fin 4) (i d : Fin 128) :
    shapeCast S8x4x128x128 (Host.dynamicSlice S1x8x4x128x128 x start sliceFits_S32x8x4x128x128_S1x8x4x128x128) shapeCasts_S1x8x4x128x128_S8x4x128x128 (ix4 b h i d)
      = x (ix5 j b h i d) := by
  rw [dynamicSlice_eq_extract S1x8x4x128x128 x start _ _ (fits j) hs]
  pointwise

/-- Writing one chunk of an array of chunks. -/
theorem update_at (x : (⟨S32x8x4x128x128, .f32⟩ : BufTy).Contents (Elt Ideal)) (u : (⟨S1x8x4x128x128, .f32⟩ : BufTy).Contents (Elt Ideal))
    (j : Fin 32) (start : Fin 5 → Int) (hs : ∀ a, start a = (((![j.val, 0, 0, 0, 0] : Fin 5 → ℕ) a : ℕ) : Int))
    (n : Fin 32) (b : Fin 8) (h : Fin 4) (i d : Fin 128) :
    Host.dynamicUpdateSlice x u start updateFits_S32x8x4x128x128_S1x8x4x128x128 (ix5 n b h i d)
      = if n = j then u (ix5 0 b h i d) else x (ix5 n b h i d) := by
  rw [dynamicUpdateSlice_eq_update x u start _ _ (fits j) hs]
  unfold updateSlice
  by_cases hn : n = j
  · subst hn
    rw [if_pos rfl, dif_pos]
    · refine congrArg u (funext fun a => Fin.ext ?_)
      fin_cases a
      · exact Nat.sub_self _
      all_goals exact Nat.sub_zero _
    · intro a
      fin_cases a
      · exact ⟨Nat.le_refl _, Nat.lt_succ_self _⟩
      · exact ⟨Nat.zero_le _, by have := b.isLt; show b.val < 0 + 8; omega⟩
      · exact ⟨Nat.zero_le _, by have := h.isLt; show h.val < 0 + 4; omega⟩
      · exact ⟨Nat.zero_le _, by have := i.isLt; show i.val < 0 + 128; omega⟩
      · exact ⟨Nat.zero_le _, by have := d.isLt; show d.val < 0 + 128; omega⟩
  · rw [if_neg hn, dif_neg]
    intro hin
    have h0 : j.val ≤ n.val ∧ n.val < j.val + 1 := hin (0 : Fin 5)
    exact hn (Fin.ext (by omega))

variable (s : State Ideal) (j : Fin 32) (b : Fin 8) (h : Fin 4)

theorem trip_q (i d : Fin 128) : b5 j.val s (ix4 b h i d) = s.main_v129_0 (ix5 j b h i d) := by
  unfold b5 b4
  exact slice_at _ j _ (start_eq j _ _ _ _ rfl rfl rfl rfl) b h i d

theorem trip_k (i d : Fin 128) : b11 j.val s (ix4 b h i d) = s.main_v129_1 (ix5 j b h i d) := by
  unfold b11 b10
  exact slice_at _ j _ (start_eq j _ _ _ _ rfl rfl rfl rfl) b h i d

theorem trip_v (i d : Fin 128) : b17 j.val s (ix4 b h i d) = s.main_v129_2 (ix5 j b h i d) := by
  unfold b17 b16
  exact slice_at _ j _ (start_eq j _ _ _ _ rfl rfl rfl rfl) b h i d

theorem trip_attn (i k : Fin 128) :
    b21 j.val s (ix4 b h i k) = (∑ d : Fin 128, b5 j.val s (ix4 b h i d) * b11 j.val s (ix4 b h k d)) * innerDecay h i k := by
  unfold b21 b20 b19 b18
  pointwise [inner_at]

theorem trip_inner (i v : Fin 128) :
    b22 j.val s (ix4 b h i v) = ∑ k : Fin 128, b21 j.val s (ix4 b h i k) * b17 j.val s (ix4 b h k v) := by
  unfold b22
  pointwise

theorem trip_cross (i v : Fin 128) :
    b25 j.val s (ix4 b h i v) = (∑ d : Fin 128, b5 j.val s (ix4 b h i d) * s.main_v129_8 (ix4 b h d v)) * queryDecay h i := by
  unfold b25 b24 b23
  pointwise [query_decay_at]

theorem trip_new (d v : Fin 128) :
    b31 j.val s (ix4 b h d v) = s.main_v129_8 (ix4 b h d v) * chunkDecay h
      + ∑ k : Fin 128, b11 j.val s (ix4 b h k d) * keyDecay h k * b17 j.val s (ix4 b h k v) := by
  unfold b31 b30 b29 b28 b27 b26
  pointwise [key_decay_at, chunk_decay_at]

theorem trip_out (n : Fin 32) (i v : Fin 128) :
    b38 j.val s (ix5 n b h i v) = if n = j then b22 j.val s (ix4 b h i v) + b25 j.val s (ix4 b h i v) else s.main_v129_9 (ix5 n b h i v) := by
  unfold b38
  refine (update_at _ _ j _ (start_eq j _ _ _ _ rfl rfl rfl rfl) n b h i v).trans ?_
  have e : b33 j.val s (ix5 0 b h i v) = b22 j.val s (ix4 b h i v) + b25 j.val s (ix4 b h i v) := by
    unfold b33 b32
    pointwise
  rw [e]

variable (q k v : (⟨S8x4096x512, .f32⟩ : BufTy).Contents (Elt Ideal))

theorem states_q : ∀ n, (states q k v n).main_v129_0 = A_main_v123 q k v
  | 0 => rfl
  | n + 1 => states_q n

theorem states_k : ∀ n, (states q k v n).main_v129_1 = A_main_v125 q k v
  | 0 => rfl
  | n + 1 => states_k n

theorem states_v : ∀ n, (states q k v n).main_v129_2 = A_main_v127 q k v
  | 0 => rfl
  | n + 1 => states_v n

/-- The carried state after `n` chunks. -/
theorem states_state (n : ℕ) (hn : n ≤ 32) (d w : Fin 128) :
    (states q k v n).main_v129_8 (ix4 b h d w) = carried (seqs k) (seqs v) b h n d w := by
  induction n generalizing d w with
  | zero =>
    show K_main_v121 (F := Ideal) (ix4 b h d w) = 0
    unfold K_main_v121 K_main_cst_19
    pointwise
  | succ n ih =>
    obtain ⟨j, rfl⟩ : ∃ j : Fin 32, j.val = n := ⟨⟨n, by omega⟩, rfl⟩
    refine (trip_new (states q k v j.val) j b h d w).trans ?_
    rw [ih (by omega)]
    simp only [trip_k, trip_v, states_k, states_v, keys_at, values_at]
    rfl

/-- A chunk's output in the stack after all chunks up to it. -/
theorem states_stacked (n : Fin 32) (i w : Fin 128) (t : ℕ) (hnt : n.val < t) (ht : t ≤ 32) :
    (states q k v t).main_v129_9 (ix5 n b h i w) = retention (seqs q) (seqs k) (seqs v) b h n i w := by
  induction t with
  | zero => omega
  | succ t ih =>
    refine (trip_out (states q k v t) ⟨t, by omega⟩ b h n i w).trans ?_
    by_cases e : n.val = t
    · subst e
      rw [if_pos rfl, trip_inner, trip_cross]
      simp only [trip_attn, trip_q, trip_k, trip_v, states_q, states_k, states_v, queries_at, keys_at, values_at,
        states_state b h q k v n.val (by omega)]
      rfl
    · rw [if_neg (fun h => e (congrArg Fin.val h))]
      exact ih (by omega) (by omega)

end Cert.ReferenceIdeal.RetRef

end
-- ==== Proof.Ret.Tie.lean ====
/-
  The kernel's result array and the reference's result, at an index, are the same branch of the model.
-/
module

public import proofs.«01_k».proof.Proof.Ret.Array
public import proofs.«01_k».proof.Proof.Ret.RefOut
public import proofs.«01_k».proof.Proof.Ret.RefLoop

@[expose] public section

set_option maxRecDepth 16384

noncomputable section

namespace Cert.Proof.Ret

open Idealize.ShloMosaic Idealize.ShloMosaic.TcCoe
open Cert.ReferenceIdeal.RetRun (states)

/-- The reference's result over the kernel's arguments is the kernel's result array. -/
theorem tie (m : (ℓ : Loc Cert.KernelIdeal.nD Cert.KernelIdeal.τ Cert.KernelIdeal.sig) → Buf (Elt Ideal) ℓ) (c : Dev Cert.KernelIdeal.nD) :
    Cert.ReferenceIdeal.Step.R_main_v157 (F := Ideal)
        (states (m ((c.tc).loc Cert.KernelIdeal.main_arg0)) (m ((c.tc).loc Cert.KernelIdeal.main_arg1)) (m ((c.tc).loc Cert.KernelIdeal.main_arg2)) 32)
        (m ((c.tc).loc Cert.KernelIdeal.main_arg3)) (m ((c.tc).loc Cert.KernelIdeal.main_arg4))
      = (Cert.KernelIdeal.Gen.dats m 0 c).arrAt 8 Cert.KernelIdeal.cfg0.N := by
  funext y
  revert y
  intro (y : Cert.KernelIdeal.S32768x512.Idx)
  obtain ⟨r, w, rfl⟩ : ∃ (r : Fin 32768) (w : Fin 512), y = ix2 r w := ⟨y 0, y 1, by idx_vars y⟩
  refine (Cert.ReferenceIdeal.RetRef.result_at _ _ _ r w).trans (Eq.trans ?_ (Cert.KernelIdeal.RetArray.result_at m c r w).symm)
  have hs : Cert.ReferenceIdeal.RetRef.stackedHead
        (states (m ((c.tc).loc Cert.KernelIdeal.main_arg0)) (m ((c.tc).loc Cert.KernelIdeal.main_arg1)) (m ((c.tc).loc Cert.KernelIdeal.main_arg2)) 32)
        ⟨r.val % 4096 / 128, by omega⟩ ⟨r.val / 4096, by omega⟩ ⟨w.val / 128, by omega⟩
      = retention (Cert.KernelIdeal.RetPoint.seqs_0 m c) (Cert.KernelIdeal.RetPoint.seqs_1 m c) (Cert.KernelIdeal.RetPoint.seqs_2 m c)
          ⟨r.val / 4096, by omega⟩ ⟨w.val / 128, by omega⟩ (r.val % 4096 / 128) := by
    funext i v
    exact Cert.ReferenceIdeal.RetRef.states_stacked _ _ _ _ _ ⟨r.val % 4096 / 128, by omega⟩ i v 32 (by show r.val % 4096 / 128 < 32; omega) (by omega)
  rw [hs]
  rfl

end Cert.Proof.Ret

end
-- ==== Proof.Experts.Routed.lean ====
/-
  The precondition of the experts' call, decoded: every block's expert is one of the 32, and at least one block is used.
-/
module

public import proofs.«01_k».proof.Proof.Gen.Pre_routed
public import Idealize.ShloMosaic.Lib.ReduceAll
public import Idealize.ShloMosaic.Lib.Pointwise.Index

@[expose] public section

noncomputable section

namespace Cert.Proof.Routed

open Idealize.ShloMosaic
open Cert.Pre_routed Cert.Pre_routed.Gen

theorem words {F : FTy → Type} [FloatOps F] {x0 : FVec F S1179648x128 .f32} {b : IVec S288 32} {n : IVec S1 32} {x3 : FVec F S32x1024x2048 .f32}
    {x4 : FVec F S32x1x2048 .f32} {x5 : FVec F S32x1024x1024 .f32} {x6 : FVec F S32x1x1024 .f32}
    (h : Cert.Pre_routed.fn x0 b n x3 x4 x5 x6 = fun _ => 1#1) : (∀ k : Fin 288, (b (ix1 k)).toNat < 32) ∧ 1 ≤ (n (ix1 0)).toInt := by
  have h0 := congrFun h (Shape.Idx.first h_S_)
  unfold Cert.Pre_routed.fn at h0
  obtain ⟨ha, hn⟩ := IntOp.andi_eq_one.1 h0
  haveI : Subsingleton S_.Idx := ⟨fun x y => funext fun a => a.elim0⟩
  constructor
  · intro k
    obtain ⟨h1, h2⟩ := IntOp.andi_eq_one.1 (Host.reduce_andi_all _ _ _ _ _ ha (ix1 k))
    have l : (0 : Int) ≤ (b (ix1 k)).toInt := IntOp.cmpi_sge.1 h1
    have u : (b (ix1 k)).toInt < 32 := IntOp.cmpi_slt.1 h2
    rw [BitVec.toInt_eq_toNat_cond] at l u
    split at l <;> omega
  · have e := IntOp.cmpi_sge.1 hn
    refine le_trans (b := (BitVec.toInt 1#32)) (by decide) (e.trans (le_of_eq (congrArg BitVec.toInt ?_)))
    exact congrArg n (funext fun a => match a with | ⟨0, _⟩ => Subsingleton.elim (α := Fin 1) _ _)

end Cert.Proof.Routed

end
-- ==== Proof.Experts.Model.lean ====
/-
  One expert's feed-forward layer as formulas on extended reals, one row of 1024 numbers at a time.
-/
module

public import Idealize.ShloMosaic.Lib.Pointwise

@[expose] public section

noncomputable section

open Idealize.ShloMosaic

namespace Cert.Proof.Experts

/-- One number of a linear layer: a row's product with a column of the weights, plus the bias. -/
def linear (x : Fin 1024 → EReal) (w : Fin 1024 → EReal) (b : EReal) : EReal := (∑ k : Fin 1024, x k * w k) + b

/-- The gate, clipped from above at 7. -/
def clipGate (g : EReal) : EReal := min g (Ideal.ofBits .f32 0x40E00000#32)

/-- The linear part, clipped to ±7. -/
def clipUp (u : EReal) : EReal := min (Ideal.ofBits .f32 0x40E00000#32) (max (Ideal.ofBits .f32 0xC0E00000#32) u)

/-- The clipped gated unit: the linear part plus one, times the gate's sigmoid-weighted gate. -/
def gatedUnit (g u : EReal) : EReal :=
  (clipUp u + 1) * (clipGate g * Ideal.logistic (clipGate g * Ideal.ofBits .f32 0x3FD9DB23#32))

/-- The row between the two linear layers. -/
def middle (x : Fin 1024 → EReal) (W : Fin 1024 → Fin 2048 → EReal) (b : Fin 2048 → EReal) : Fin 1024 → EReal := fun f =>
  gatedUnit (linear x (fun k => W k ⟨f.val, by omega⟩) (b ⟨f.val, by omega⟩))
    (linear x (fun k => W k ⟨1024 + f.val, by omega⟩) (b ⟨1024 + f.val, by omega⟩))

/-- One number of the row the expert leaves. -/
def feed (x : Fin 1024 → EReal) (W : Fin 1024 → Fin 2048 → EReal) (b : Fin 2048 → EReal) (D : Fin 1024 → Fin 1024 → EReal)
    (e : Fin 1024 → EReal) (d : Fin 1024) : EReal :=
  linear (middle x W b) (fun k => D k d) (e d)

/-- The whole result at row `R`, lane `l`. The rows lie in strips of 128 lanes, eight to a row of 1024 numbers, 4096 to a block; block `t`
    goes through expert `e t` if it is one of the first `n`, and is zero otherwise. -/
def answer {E : Type} (x : Fin 1179648 → Fin 128 → EReal) (e : Fin 288 → E) (n : Int) (W : E → Fin 1024 → Fin 2048 → EReal) (b : E → Fin 2048 → EReal)
    (D : E → Fin 1024 → Fin 1024 → EReal) (g : E → Fin 1024 → EReal) (R : Fin 1179648) (l : Fin 128) : EReal :=
  if ((R.val / 4096 : ℕ) : Int) < n then
    feed (fun k => x ⟨R.val / 8 * 8 + k.val / 128, by omega⟩ ⟨k.val % 128, Nat.mod_lt _ (by decide)⟩)
      (W (e ⟨R.val / 4096, by omega⟩)) (b (e ⟨R.val / 4096, by omega⟩)) (D (e ⟨R.val / 4096, by omega⟩)) (g (e ⟨R.val / 4096, by omega⟩))
      ⟨R.val % 8 * 128 + l.val, by omega⟩
  else 0

end Cert.Proof.Experts
-- ==== Proof.Experts.Kit.lean ====
/-
  The experts' call: what its launch is stated over. The region is the whole of @main; its two prefetched tables are the experts of the
  blocks (`bexp`) and the number of used blocks (`nused`).
-/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ExpertsIdeal Cert.ExpertsIdeal.Gen

variable {F : FTy → Type} [FloatOps F]

/-- The machine the assertions speak of. -/
abbrev Mach (F : FTy → Type) : Type := MT nD τ sig Unit (Elt F) ℕ (UR sig nD τ) ℕ

variable (m : (ℓ : Loc nD τ sig) → Buf (Elt F) ℓ)

/-- A core's buffers as the region finds them: as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables as launched; there is one device. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev pipe (hO : Ok m) : Pipeline.Cfg sig Λ₀ := cfg0 (adm m hO)

/-- The tables and the two casts of the weights, as the body is handed them. -/
abbrev bexpM : Memref sig .tc .smem S288 .i32 := Memref.whole main_arg1
abbrev nusedM : Memref sig .tc .smem S1 .i32 := Memref.whole main_arg2
abbrev upM : Memref sig .tc .vmem S1024x2048 .bf16 := Memref.whole cc0_scratch0
abbrev downM : Memref sig .tc .vmem S1024x1024 .bf16 := Memref.whole cc0_scratch1

/-- A table's buffer held for reading. -/
abbrev TblBuf (c : Dev nD) {S : Shape} {e : EltTy} (M : Memref sig .tc .smem S e) : Type := Buf (Elt F) (M.view.loc (c : Thread nD τ))
abbrev tblAt (c : Dev nD) {S : Shape} {e : EltTy} (M : Memref sig .tc .smem S e) (f : TblBuf (F := F) c M) : sProp (Mach F) :=
  M.view.loc (c : Thread nD τ) ↦{fullShare.right} f

theorem tables_eq (c : Dev nD) : (Pipeline.ΦT pre0 (tbl m) c : sProp (Mach F)) = iprop(tblAt c bexpM (tbl m 0) ∗ tblAt c nusedM (tbl m 1)) := by
  unfold Pipeline.ΦT Pipeline.prefHeld
  rw [show (Finset.univ : Finset (Fin 2)) = insert (0 : Fin 2) {(1 : Fin 2)} from by decide,
    bigSep_insert (by decide), bigSep_singleton]
  rfl

theorem rest_eq (c : Dev nD) :
    (Pipeline.ΦA spec0 c : sProp (Mach F))
      = iprop(iprop((∃ d, owns (c : Thread nD τ) upM fullShare d) ∗ (∃ d, owns (c : Thread nD τ) downM fullShare d)) ∗ (∃ r, prngReg c r)) := by
  unfold Pipeline.ΦA; rw [scopedRest0_eq]; simp only [upM, downM, owns_whole]; try rfl

/-- Window `w`'s block at point `t`, read off its array. -/
def iblk (hO : Ok m) (c : Dev nD) (w : Fin (pipe m hO).W) (t : Fin (pipe m hO).N) : (((pipe m hO).win w).xblock ((pipe m hO).grid.coords t)).Idx → Elt F ((pipe m hO).win w).elt :=
  (((pipe m hO).win w).blk t).view.read (Elt F) (V m c (Pipeline.arrRef spec0 w))

/-- The staging memrefs at a point. -/
abbrev st0 (hO : Ok m) (t : Fin (pipe m hO).N) : Memref sig .tc .vmem S4096x128 .f32 := spec0_0.stage ((pipe m hO).slots t 0)
abbrev st1 (hO : Ok m) (t : Fin (pipe m hO).N) : Memref sig .tc .vmem S1x1024x2048 .f32 := spec0_1.stage ((pipe m hO).slots t 1)
abbrev st2 (hO : Ok m) (t : Fin (pipe m hO).N) : Memref sig .tc .vmem S1x1x2048 .f32 := spec0_2.stage ((pipe m hO).slots t 2)
abbrev st3 (hO : Ok m) (t : Fin (pipe m hO).N) : Memref sig .tc .vmem S1x1024x1024 .f32 := spec0_3.stage ((pipe m hO).slots t 3)
abbrev st4 (hO : Ok m) (t : Fin (pipe m hO).N) : Memref sig .tc .vmem S1x1x1024 .f32 := spec0_4.stage ((pipe m hO).slots t 4)
abbrev st5 (hO : Ok m) (t : Fin (pipe m hO).N) : Memref sig .tc .vmem S4096x128 .f32 := spec0_5.stage ((pipe m hO).slots t 5)
abbrev whole0 (hO : Ok m) (t : Fin (pipe m hO).N) : (st0 m hO t).IsWhole := hstage0_0 (((pipe m hO).slots t 0).cast nbuf0_0)
abbrev whole1 (hO : Ok m) (t : Fin (pipe m hO).N) : (st1 m hO t).IsWhole := hstage0_1 (((pipe m hO).slots t 1).cast nbuf0_1)
abbrev whole2 (hO : Ok m) (t : Fin (pipe m hO).N) : (st2 m hO t).IsWhole := hstage0_2 (((pipe m hO).slots t 2).cast nbuf0_2)
abbrev whole3 (hO : Ok m) (t : Fin (pipe m hO).N) : (st3 m hO t).IsWhole := hstage0_3 (((pipe m hO).slots t 3).cast nbuf0_3)
abbrev whole4 (hO : Ok m) (t : Fin (pipe m hO).N) : (st4 m hO t).IsWhole := hstage0_4 (((pipe m hO).slots t 4).cast nbuf0_4)
abbrev whole5 (hO : Ok m) (t : Fin (pipe m hO).N) : (st5 m hO t).IsWhole := hstage0_5 (((pipe m hO).slots t 5).cast nbuf0_5)

/-- The body as the pipeline calls it at a point. -/
abbrev bodyAt (hO : Ok m) (t : Fin (pipe m hO).N) : Prog (TpuEff nD τ sig (Elt F) Λ₀ .tc) PUnit :=
  cc0_moe (grid0.coords t) bexpM (Memref.isWhole_whole _) nusedM (Memref.isWhole_whole _) (st0 m hO t) (whole0 m hO t) (st1 m hO t) (whole1 m hO t)
    (st2 m hO t) (whole2 m hO t) (st3 m hO t) (whole3 m hO t) (st4 m hO t) (whole4 m hO t) (st5 m hO t) (whole5 m hO t)
    upM (Memref.isWhole_whole _) downM (Memref.isWhole_whole _)

theorem defs_row (hO : Ok m) (t : Fin (pipe m hO).N) :
    defs₀ (F := F) .tc (pipe m hO).body ((pipe m hO).bodyArgs t ((pipe m hO).slots t)) = bodyAt m hO t := by
  unfold defs₀; rw [Defs.onTc_tc]

/-- The result's block is written back at every point. -/
theorem flush5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-! ## The body's words and branches -/

/-- Entry `o` of the table of experts, and the number of used blocks, as the body reads them. -/
abbrev wordOf {c : Dev nD} (xt : TblBuf (F := F) c bexpM) (o : Fin 1 → Nat) (h : ∀ a, o a + S1.size a ≤ S288.size a) : BitVec 32 :=
  bexpM.view.readAt (Elt F) (Rect.unit (s := S288) o S1.size h).toLoadRect xt (Shape.Idx.first (numel1_S1.symm ▸ Nat.one_pos))
abbrev nusedOf {c : Dev nD} (xt : TblBuf (F := F) c nusedM) : BitVec 32 :=
  nusedM.view.readAt (Elt F) (Rect.unit (s := S1) ![0] S1.size inb_S1_S1_0).toLoadRect xt (Shape.Idx.first (numel1_S1.symm ▸ Nat.one_pos))

/-- The weights are cast anew: at the first point, and where the expert is not the block before's. -/
abbrev Recast {c : Dev nD} (i : grid0.Coords) (xt : TblBuf (F := F) c bexpM) : Prop :=
  Scalar.cmpi .ne (Scalar.extui (Scalar.ori (Scalar.cmpi .eq (BitVec.ofNat 32 (i 0).val) 0#32)
    (Scalar.cmpi .ne (wordOf xt (k0_off1 i) (k0_off1_inb i)) (wordOf xt (k0_off2 i) (k0_off2_inb i))))) 0#32 = 1#1

/-- The block is one of the used ones, -/
abbrev Used {c : Dev nD} (i : grid0.Coords) (xt : TblBuf (F := F) c nusedM) : Prop := k0_cond2 i (nusedOf xt) = 1#1
/-- or past them. -/
abbrev Past {c : Dev nD} (i : grid0.Coords) (xt : TblBuf (F := F) c nusedM) : Prop := k0_cond3 i (nusedOf xt) = 1#1

theorem past_iff {c : Dev nD} (i : grid0.Coords) (xt : TblBuf (F := F) c nusedM) : Past i xt ↔ ¬Used i xt := by
  unfold Past Used k0_cond2 k0_cond3
  generalize nusedOf xt = w
  generalize BitVec.ofNat 32 (i 0).val = a
  show IntOp.cmpi .ne (BitVec.setWidth 32 (IntOp.cmpi .sge a w)) 0#32 = 1#1 ↔ ¬IntOp.cmpi .ne (BitVec.setWidth 32 (IntOp.cmpi .slt a w)) 0#32 = 1#1
  rw [WordCmp.cmpi_sge_eq, WordCmp.cmpi_slt_eq]
  by_cases h : a.toInt < w.toInt
  · simp only [h, not_le.2 h]; decide
  · simp only [h, not_lt.1 h]; decide

end Cert.ExpertsIdeal.Run

end
-- ==== Proof.Experts.Block.lean ====
/-
  What one point of the experts' kernel leaves in its output block, as a function of the blocks it reads: the rows of a block lie in
  strips, row `8 r + s` of the block holding the columns `128 s ‥ 128 s + 127` of row `r`.
-/
module

public import proofs.«01_k».proof.Proof.Experts.Kit
public import Idealize.ShloMosaic.Lib.Pipeline.ValueKit
public import Idealize.ShloMosaic.Lib.Pipeline.ReadBack

@[expose] public section

set_option maxRecDepth 16384

noncomputable section

namespace Cert.ExpertsIdeal.Run

open Idealize.ShloMosaic Idealize.ShloMosaic.TcCoe Idealize.SL.Sem
open Cert.ExpertsIdeal Cert.ExpertsIdeal.Gen

variable {F : FTy → Type} [FloatOps F]

/-- Strip `s` of a block: its columns `128 s ‥ 128 s + 127`. -/
def strip (x : Vec F S4096x128 .f32) (s : Fin 8) : Vec F S512x128 .f32 := fun j =>
  x (ix2 ⟨(j 0).val * 8 + s.val, by have := ValueIdx.idx2_lt0 j; omega⟩ ⟨(j 1).val, ValueIdx.idx2_lt1 j⟩)

/-- A block's strips from its rows. -/
def interleave (y : Vec F S512x1024 .f32) : Vec F S4096x128 .f32 := fun j =>
  y (ix2 ⟨(j 0).val / 8, by have := ValueIdx.idx2_lt0 j; omega⟩ ⟨(j 0).val % 8 * 128 + (j 1).val, by have := ValueIdx.idx2_lt1 j; omega⟩)

/-- The activations of a used block, over its rows, the cast weights and the first bias. -/
def hidden (x0 : Vec F S4096x128 .f32) (up : Vec F S1024x2048 .bf16) (x2 : Vec F S1x1x2048 .f32) : FVec F S512x1024 .bf16 :=
  k0_pay13 (strip x0 0) (strip x0 1) (strip x0 2) (strip x0 3) (strip x0 4) (strip x0 5) (strip x0 6) (strip x0 7) up x2

/-- The output block of a used block. -/
def usedBlock (x0 : Vec F S4096x128 .f32) (up : Vec F S1024x2048 .bf16) (x2 : Vec F S1x1x2048 .f32) (down : Vec F S1024x1024 .bf16)
    (x4 : Vec F S1x1x1024 .f32) : Vec F S4096x128 .f32 :=
  interleave (k0_pay3 (hidden x0 up x2) down x4)

/-- A strided load of a block held whole is its strip. -/
theorem load_strip (M : Memref sig .tc .vmem S4096x128 .f32) (h : M.IsWhole) (x : Vec F S4096x128 .f32) (s : Fin 8) (inb) :
    M.view.readAt (Elt F) (⟨![s.val, 0], S512x128.size, ![8, 1], inb⟩ : LoadRect S4096x128) (h.unread x) = strip x s := by
  funext j
  rw [View.readAt_apply, h.read_unread]
  refine congrArg x (funext fun a => Fin.ext ?_)
  match a with
  | ⟨0, _⟩ => show s.val + 8 * (j 0).val = (j 0).val * 8 + s.val; omega
  | ⟨1, _⟩ => show 0 + 1 * (j 1).val = (j 1).val; omega

/-- A load of all of a buffer held whole is its contents. -/
theorem load_full {S : Shape} {e : EltTy} (M : Memref sig .tc .vmem S e) (h : M.IsWhole) (x : S.Idx → Elt F e) (off : Fin S.rank → Nat) (inb) (h0 : ∀ a, off a = 0) :
    M.view.readAt (Elt F) (Rect.unit off S.size inb).toLoadRect (h.unread x) = x := by
  rw [View.readAt_eq_ld, h.read_unread]
  exact View.ld_unit_lit inb x h0

/-- A store of all of a buffer leaves the stored array. -/
theorem read_full {S : Shape} {e : EltTy} {κ : Kind} {sp : Space} (v : View sig κ sp S e) (f : v.ty.Contents (Elt F)) (x : S.Idx → Elt F e) (off : Fin S.rank → Nat) (inb)
    (h0 : ∀ a, off a = 0) : v.read (Elt F) (v.writes (Elt F) f [⟨Rect.unit off S.size inb, x⟩]) = x := by
  have e : ∀ y : S.Idx, (Rect.unit off S.size inb).emb y = y := fun y =>
    Rect.emb_eq_of_coords _ _ _ fun a => by show (y a).val = off a + 1 * (y a).val; rw [h0 a]; omega
  funext y
  refine View.read_writes_apply_of_pieces v f x _ ?_ y ⟨_, .head _, ?_⟩
  · intro p hp z
    obtain rfl := List.mem_singleton.1 hp
    exact congrArg x (e z).symm
  · show y ∈ (Rect.unit off S.size inb).set
    rw [← Rect.map_emb_univ]
    exact Finset.mem_map.2 ⟨y, Finset.mem_univ _, e y⟩

theorem hidden_eq {a0 a1 a2 a3 a4 a5 a6 a7 : Vec F S512x128 .f32} {up up' : Vec F S1024x2048 .bf16} {b b' : Vec F S1x1x2048 .f32} (x : Vec F S4096x128 .f32)
    (h0 : a0 = strip x 0) (h1 : a1 = strip x 1) (h2 : a2 = strip x 2) (h3 : a3 = strip x 3) (h4 : a4 = strip x 4) (h5 : a5 = strip x 5)
    (h6 : a6 = strip x 6) (h7 : a7 = strip x 7) (hu : up = up') (hb : b = b') : k0_pay13 a0 a1 a2 a3 a4 a5 a6 a7 up b = hidden x up' b' := by
  subst h0 h1 h2 h3 h4 h5 h6 h7 hu hb; rfl

theorem usedBlock_eq {h : FVec F S512x1024 .bf16} {d d' : Vec F S1024x1024 .bf16} {b b' : Vec F S1x1x1024 .f32} {x : Vec F S4096x128 .f32} {up : Vec F S1024x2048 .bf16}
    {x2 : Vec F S1x1x2048 .f32} (hh : h = hidden x up x2) (hd : d = d') (hb : b = b') : interleave (k0_pay3 h d b) = usedBlock x up x2 d' b' := by
  subst hh hd hb; rfl

variable {κ : Kind} {sp : Space}

theorem strips_cover (s : Fin 8) (r : Rect S4096x128) (y : S4096x128.Idx) (inb pos) (hr : r = ⟨⟨![s.val, 0], S512x128.size, ![8, 1], inb⟩, pos⟩)
    (hy : (y 0).val % 8 = s.val) : y ∈ r.set := by
  subst hr
  have h0 := ValueIdx.idx2_lt0 y
  have h1 := ValueIdx.idx2_lt1 y
  have e : (⟨⟨![s.val, 0], S512x128.size, ![8, 1], inb⟩, pos⟩ : Rect S4096x128).emb (ix2 (⟨(y 0).val / 8, by omega⟩ : Fin 512) (⟨(y 1).val, h1⟩ : Fin 128)) = y :=
    Rect.emb_eq_of_coords _ _ _ fun a => match a with
      | ⟨0, _⟩ => by show (y 0).val = s.val + 8 * ((y 0).val / 8); omega
      | ⟨1, _⟩ => by show (y 1).val = 0 + 1 * (y 1).val; omega
  rw [← Rect.map_emb_univ]
  exact Finset.mem_map.2 ⟨_, Finset.mem_univ _, e⟩

theorem slice_strip (y : Vec F S512x1024 .f32) (s : Fin 8) (o : Nat) (ho : o = s.val * 128) (hs : S512x1024.Slices ![0, o] S512x128) (x : S512x128.Idx) (z : S4096x128.Idx)
    (hz : ∀ a, (z a).val = (![s.val, 0] : Fin 2 → Nat) a + (![8, 1] : Fin 2 → Nat) a * (x a).val) :
    extractStridedSlice S512x128 ![0, o] y hs x = interleave y z := by
  have h0 := hz 0
  have h1 := hz 1
  have l1 := ValueIdx.idx2_lt1 x
  simp only [Matrix.cons_val_zero, Matrix.cons_val_one] at h0 h1
  unfold interleave
  refine congrArg y (funext fun a => Fin.ext ?_)
  match a with
  | ⟨0, _⟩ => show 0 + (x 0).val = (z 0).val / 8; omega
  | ⟨1, _⟩ => show o + (x 1).val = (z 0).val % 8 * 128 + (z 1).val; omega

/-- The eight strided stores leave the rows' strips. -/
theorem read_strips (v : View sig κ sp S4096x128 .f32) (f : v.ty.Contents (Elt F)) (a : FVec F S512x1024 .bf16) (b : Vec F S1024x1024 .bf16) (d : Vec F S1x1x1024 .f32) :
    v.read (Elt F) (v.writes (Elt F) f
      [⟨⟨⟨![7, 0], S512x128.size, ![8, 1], inb_S4096x128_S512x128_7_0_s_8_1⟩, spos_8_1⟩, k0_pay11 a b d⟩,
       ⟨⟨⟨![6, 0], S512x128.size, ![8, 1], inb_S4096x128_S512x128_6_0_s_8_1⟩, spos_8_1⟩, k0_pay10 a b d⟩,
       ⟨⟨⟨![5, 0], S512x128.size, ![8, 1], inb_S4096x128_S512x128_5_0_s_8_1⟩, spos_8_1⟩, k0_pay9 a b d⟩,
       ⟨⟨⟨![4, 0], S512x128.size, ![8, 1], inb_S4096x128_S512x128_4_0_s_8_1⟩, spos_8_1⟩, k0_pay8 a b d⟩,
       ⟨⟨⟨![3, 0], S512x128.size, ![8, 1], inb_S4096x128_S512x128_3_0_s_8_1⟩, spos_8_1⟩, k0_pay7 a b d⟩,
       ⟨⟨⟨![2, 0], S512x128.size, ![8, 1], inb_S4096x128_S512x128_2_0_s_8_1⟩, spos_8_1⟩, k0_pay6 a b d⟩,
       ⟨⟨⟨![1, 0], S512x128.size, ![8, 1], inb_S4096x128_S512x128_1_0_s_8_1⟩, spos_8_1⟩, k0_pay5 a b d⟩,
       ⟨⟨⟨![0, 0], S512x128.size, ![8, 1], inb_S4096x128_S512x128_0_0_s_8_1⟩, spos_8_1⟩, k0_pay4 a b d⟩])
      = interleave (k0_pay3 a b d) := by
  funext y
  refine View.read_writes_apply_of_pieces v f (interleave (k0_pay3 a b d)) _ ?_ y ?_
  · intro p hp
    simp only [List.mem_cons, List.not_mem_nil, or_false] at hp
    rcases hp with rfl | rfl | rfl | rfl | rfl | rfl | rfl | rfl
    · intro x; exact slice_strip (k0_pay3 a b d) 7 896 rfl slices_S512x1024_o0_896_S512x128 x _ fun _ => rfl
    · intro x; exact slice_strip (k0_pay3 a b d) 6 768 rfl slices_S512x1024_o0_768_S512x128 x _ fun _ => rfl
    · intro x; exact slice_strip (k0_pay3 a b d) 5 640 rfl slices_S512x1024_o0_640_S512x128 x _ fun _ => rfl
    · intro x; exact slice_strip (k0_pay3 a b d) 4 512 rfl slices_S512x1024_o0_512_S512x128 x _ fun _ => rfl
    · intro x; exact slice_strip (k0_pay3 a b d) 3 384 rfl slices_S512x1024_o0_384_S512x128 x _ fun _ => rfl
    · intro x; exact slice_strip (k0_pay3 a b d) 2 256 rfl slices_S512x1024_o0_256_S512x128 x _ fun _ => rfl
    · intro x; exact slice_strip (k0_pay3 a b d) 1 128 rfl slices_S512x1024_o0_128_S512x128 x _ fun _ => rfl
    · intro x; exact slice_strip (k0_pay3 a b d) 0 0 rfl slices_S512x1024_o0_0_S512x128 x _ fun _ => rfl
  · have hlt : (y 0).val % 8 < 8 := Nat.mod_lt _ (by decide)
    rcases (by omega : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0) with h | h | h | h | h | h | h | h
    · exact ⟨_, .head _, strips_cover 7 _ y _ _ rfl h⟩
    · exact ⟨_, .tail _ (.head _), strips_cover 6 _ y _ _ rfl h⟩
    · exact ⟨_, .tail _ (.tail _ (.head _)), strips_cover 5 _ y _ _ rfl h⟩
    · exact ⟨_, .tail _ (.tail _ (.tail _ (.head _))), strips_cover 4 _ y _ _ rfl h⟩
    · exact ⟨_, .tail _ (.tail _ (.tail _ (.tail _ (.head _)))), strips_cover 3 _ y _ _ rfl h⟩
    · exact ⟨_, .tail _ (.tail _ (.tail _ (.tail _ (.tail _ (.head _))))), strips_cover 2 _ y _ _ rfl h⟩
    · exact ⟨_, .tail _ (.tail _ (.tail _ (.tail _ (.tail _ (.tail _ (.head _)))))), strips_cover 1 _ y _ _ rfl h⟩
    · exact ⟨_, .tail _ (.tail _ (.tail _ (.tail _ (.tail _ (.tail _ (.tail _ (.head _))))))), strips_cover 0 _ y _ _ rfl h⟩

end Cert.ExpertsIdeal.Run

end
-- ==== Proof.Experts.Point.lean ====
/-
  The block a used point leaves, at one index, over extended reals: the expert's layer on the row the index lies in.
-/
module

public import proofs.«01_k».proof.Proof.Experts.Model
public import proofs.«01_k».proof.Proof.Experts.Block

@[expose] public section

set_option maxRecDepth 16384

noncomputable section

namespace Cert.ExpertsIdeal.Run

open Idealize.ShloMosaic Idealize.ShloMosaic.TcCoe Idealize.SL.Sem
open Cert.ExpertsIdeal Cert.ExpertsIdeal.Gen Cert.Proof.Experts

/-- Row `r` of a block, put together from its eight strips. -/
def rowOf (x : Vec Ideal S4096x128 .f32) (r : Fin 512) (k : Fin 1024) : EReal :=
  x (ix2 ⟨r.val * 8 + k.val / 128, by omega⟩ ⟨k.val % 128, Nat.mod_lt _ (by decide)⟩)

/-- The eight strips side by side are the rows. -/
theorem strips_at (x : Vec Ideal S4096x128 .f32) (h) (r : Fin 512) (k : Fin 1024) :
    concatenate S512x1024 1 [⟨S512x128, strip x 0⟩, ⟨S512x128, strip x 1⟩, ⟨S512x128, strip x 2⟩, ⟨S512x128, strip x 3⟩, ⟨S512x128, strip x 4⟩,
      ⟨S512x128, strip x 5⟩, ⟨S512x128, strip x 6⟩, ⟨S512x128, strip x 7⟩] h (ix2 r k) = rowOf x r k := by
  refine (concatenate_ofFn_apply (t := S512x1024) (s₁ := S512x128) (1 : Fin 2) (N := 8) (fun n => strip x n) h rfl 128 rfl (ix2 r k)
    ⟨k.val / 128, by omega⟩ rfl (ix2 r ⟨k.val % 128, Nat.mod_lt _ (by decide)⟩) rfl ?_).trans rfl
  intro b hb
  match b with
  | ⟨0, _⟩ => rfl
  | ⟨1, _⟩ => exact absurd rfl hb

theorem strips_eq (x : Vec Ideal S4096x128 .f32) (h) :
    concatenate S512x1024 1 [⟨S512x128, strip x 0⟩, ⟨S512x128, strip x 1⟩, ⟨S512x128, strip x 2⟩, ⟨S512x128, strip x 3⟩, ⟨S512x128, strip x 4⟩,
      ⟨S512x128, strip x 5⟩, ⟨S512x128, strip x 6⟩, ⟨S512x128, strip x 7⟩] h
      = fun j : S512x1024.Idx => rowOf x ⟨(j 0).val, ValueIdx.idx2_lt0 j⟩ ⟨(j 1).val, ValueIdx.idx2_lt1 j⟩ := by
  funext j
  idx_vars j
  exact strips_at x h _ _

/-- The activations at an index. -/
theorem hidden_at (x : Vec Ideal S4096x128 .f32) (up : Vec Ideal S1024x2048 .bf16) (b : Vec Ideal S1x1x2048 .f32) (r : Fin 512) (f : Fin 1024) :
    hidden x up b (ix2 r f) = middle (rowOf x r) (fun k f => up (ix2 k f)) (fun f => b (ix3 0 0 f)) f := by
  unfold hidden
  open_payloads
  rw [strips_eq]
  pointwise [middle, gatedUnit, clipGate, clipUp, linear]

/-- The second product and its bias at an index. -/
theorem product_at (y : FVec Ideal S512x1024 .bf16) (down : Vec Ideal S1024x1024 .bf16) (e : Vec Ideal S1x1x1024 .f32) (r : Fin 512) (d : Fin 1024) :
    k0_pay3 y down e (ix2 r d) = linear (fun k => y (ix2 r k)) (fun k => down (ix2 k d)) (e (ix3 0 0 d)) := by
  open_payloads
  pointwise [linear]

/-- The block a used point leaves, at an index. -/
theorem usedBlock_at (x : Vec Ideal S4096x128 .f32) (up : Vec Ideal S1024x2048 .bf16) (b : Vec Ideal S1x1x2048 .f32) (down : Vec Ideal S1024x1024 .bf16)
    (e : Vec Ideal S1x1x1024 .f32) (j : Fin 4096) (l : Fin 128) :
    usedBlock x up b down e (ix2 j l)
      = feed (rowOf x ⟨j.val / 8, by omega⟩) (fun k f => up (ix2 k f)) (fun f => b (ix3 0 0 f)) (fun k d => down (ix2 k d)) (fun d => e (ix3 0 0 d))
          ⟨j.val % 8 * 128 + l.val, by omega⟩ := by
  refine (product_at (hidden x up b) down e ⟨j.val / 8, by omega⟩ ⟨j.val % 8 * 128 + l.val, by omega⟩).trans ?_
  simp only [hidden_at, feed]

/-- The cast weights at an index. -/
theorem up_at (w : Vec Ideal S1x1024x2048 .f32) (k : Fin 1024) (f : Fin 2048) : k0_pay1 w (ix2 k f) = w (ix3 0 k f) := by
  open_payloads
  pointwise

theorem down_at (w : Vec Ideal S1x1024x1024 .f32) (k : Fin 1024) (d : Fin 1024) : k0_pay2 w (ix2 k d) = w (ix3 0 k d) := by
  open_payloads
  pointwise

/-- The zeros past the used blocks. -/
theorem zero_at (j : Fin 4096) (l : Fin 128) : k0_pay12 (F := Ideal) (ix2 j l) = 0 := by
  open_payloads
  pointwise

end Cert.ExpertsIdeal.Run
-- ==== Proof.Experts.Runs.lean ====
/-
  The experts' body at a point, in each of its four cases: the weights cast anew or kept, the block used or past the used ones. Each
  theorem says what the body leaves in its output block and in the two scratch buffers holding the casts.
-/
module

public import proofs.«01_k».proof.Proof.Experts.Block

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ExpertsIdeal Cert.ExpertsIdeal.Gen

variable {F : FTy → Type} [FloatOps F]

set_option maxHeartbeats 1000000 in
/-- The weights cast anew, at a used block. -/
theorem run_recast_used (c : Dev nD) (i : grid0.Coords) (arg3 : Memref sig .tc .vmem S4096x128 .f32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole)
    (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1024x2048 .f32) (x2 : Vec F S1x1x2048 .f32) (x3 : Vec F S1x1024x1024 .f32) (x4 : Vec F S1x1x1024 .f32)
    (xt0 : TblBuf (F := F) c bexpM) (xt1 : TblBuf (F := F) c nusedM)
    (hr : Recast i xt0) (hu : Used i xt1) (E : Set ℕ) (K : PUnit → sProp (Mach F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ (∃ d, owns (c : Thread nD τ) arg10 fullShare d) ∗ tblAt c bexpM xt0 ∗ tblAt c nusedM xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare (usedBlock x0 (k0_pay1 x1) x2 (k0_pay2 x3) x4) ∗ owns (c : Thread nD τ) arg9 fullShare (k0_pay1 x1) ∗ owns (c : Thread nD τ) arg10 fullShare (k0_pay2 x3) ∗ tblAt c bexpM xt0 ∗ tblAt c nusedM xt1) -∗ K ⟨⟩))
      ⊢ wp frame (wpE (defs₀ (F := F)) Variants.none c none) E
          (cc0_moe i bexpM (Memref.isWhole_whole _) nusedM (Memref.isWhole_whole _) arg3 harg3 arg4 harg4 arg5 harg5 arg6 harg6 arg7 harg7 arg8 harg8 arg9 harg9 arg10 harg10) K := by
  have hp : ¬Past i xt1 := fun h => (past_iff i xt1).1 h hu
  simp only [cc0_moe_eq_skeleton]; unfold cc0_moe_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hr | sl_exact hu | sl_exact hp)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    unfold run_recast_used.sl.r_3 run_recast_used.sl.v51
    unfold run_recast_used.sl.v29 run_recast_used.sl.HS0_1 run_recast_used.sl.HS1_1
    refine (read_strips _ _ _ _ _).trans (usedBlock_eq (hidden_eq x0 ?_ ?_ ?_ ?_ ?_ ?_ ?_ ?_ ?_ ?_) ?_ ?_)
    · exact load_strip arg3 harg3 x0 0 _
    · exact load_strip arg3 harg3 x0 1 _
    · exact load_strip arg3 harg3 x0 2 _
    · exact load_strip arg3 harg3 x0 3 _
    · exact load_strip arg3 harg3 x0 4 _
    · exact load_strip arg3 harg3 x0 5 _
    · exact load_strip arg3 harg3 x0 6 _
    · exact load_strip arg3 harg3 x0 7 _
    · exact ((View.readCov_fill _ _ _ _ _ (by decide)).trans ((View.ld_unit_lit _ _ (by decide)).trans (congrArg k0_pay1 (load_full _ harg4 _ _ _ (by decide)))))
    · exact load_full _ harg5 _ _ _ (by decide)
    · exact ((View.readCov_fill _ _ _ _ _ (by decide)).trans ((View.ld_unit_lit _ _ (by decide)).trans (congrArg k0_pay2 (load_full _ harg6 _ _ _ (by decide)))))
    · exact load_full _ harg7 _ _ _ (by decide)
  isplitl [HS0]
  · iexists _; isplitr
    swap; · iexact HS0
    ipureintro
    try unfold run_recast_used.sl.HS0_1
    exact (read_full _ _ _ _ _ (by decide)).trans (congrArg k0_pay1 (load_full _ harg4 _ _ _ (by decide)))
  isplitl [HS1]
  · iexists _; isplitr
    swap; · iexact HS1
    ipureintro
    try unfold run_recast_used.sl.HS1_1
    exact (read_full _ _ _ _ _ (by decide)).trans (congrArg k0_pay2 (load_full _ harg6 _ _ _ (by decide)))
  isplitl [HT0]
  · iexact HT0
  iexact HT1

set_option maxHeartbeats 1000000 in
/-- The weights cast anew, past the used blocks. -/
theorem run_recast_past (c : Dev nD) (i : grid0.Coords) (arg3 : Memref sig .tc .vmem S4096x128 .f32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole)
    (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1024x2048 .f32) (x2 : Vec F S1x1x2048 .f32) (x3 : Vec F S1x1024x1024 .f32) (x4 : Vec F S1x1x1024 .f32)
    (xt0 : TblBuf (F := F) c bexpM) (xt1 : TblBuf (F := F) c nusedM)
    (hr : Recast i xt0) (hu : ¬Used i xt1) (E : Set ℕ) (K : PUnit → sProp (Mach F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ (∃ d, owns (c : Thread nD τ) arg10 fullShare d) ∗ tblAt c bexpM xt0 ∗ tblAt c nusedM xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare k0_pay12 ∗ owns (c : Thread nD τ) arg9 fullShare (k0_pay1 x1) ∗ owns (c : Thread nD τ) arg10 fullShare (k0_pay2 x3) ∗ tblAt c bexpM xt0 ∗ tblAt c nusedM xt1) -∗ K ⟨⟩))
      ⊢ wp frame (wpE (defs₀ (F := F)) Variants.none c none) E
          (cc0_moe i bexpM (Memref.isWhole_whole _) nusedM (Memref.isWhole_whole _) arg3 harg3 arg4 harg4 arg5 harg5 arg6 harg6 arg7 harg7 arg8 harg8 arg9 harg9 arg10 harg10) K := by
  have hp : Past i xt1 := (past_iff i xt1).2 hu
  simp only [cc0_moe_eq_skeleton]; unfold cc0_moe_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hr | sl_exact hu | sl_exact hp)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    exact read_full _ _ _ _ _ (by decide)
  isplitl [HS0]
  · iexists _; isplitr
    swap; · iexact HS0
    ipureintro
    try unfold run_recast_past.sl.HS0_1
    exact (read_full _ _ _ _ _ (by decide)).trans (congrArg k0_pay1 (load_full _ harg4 _ _ _ (by decide)))
  isplitl [HS1]
  · iexists _; isplitr
    swap; · iexact HS1
    ipureintro
    try unfold run_recast_past.sl.HS1_1
    exact (read_full _ _ _ _ _ (by decide)).trans (congrArg k0_pay2 (load_full _ harg6 _ _ _ (by decide)))
  isplitl [HT0]
  · iexact HT0
  iexact HT1

set_option maxHeartbeats 1000000 in
/-- The casts kept, at a used block. -/
theorem run_keep_used (c : Dev nD) (i : grid0.Coords) (arg3 : Memref sig .tc .vmem S4096x128 .f32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole)
    (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1024x2048 .f32) (x2 : Vec F S1x1x2048 .f32) (x3 : Vec F S1x1024x1024 .f32) (x4 : Vec F S1x1x1024 .f32)
    (xt0 : TblBuf (F := F) c bexpM) (xt1 : TblBuf (F := F) c nusedM) (up : Vec F S1024x2048 .bf16) (down : Vec F S1024x1024 .bf16)
    (hr : ¬Recast i xt0) (hu : Used i xt1) (E : Set ℕ) (K : PUnit → sProp (Mach F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ (∃ d, owns (c : Thread nD τ) arg8 fullShare d) ∗ owns (c : Thread nD τ) arg9 fullShare up ∗ owns (c : Thread nD τ) arg10 fullShare down ∗ tblAt c bexpM xt0 ∗ tblAt c nusedM xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare (usedBlock x0 up x2 down x4) ∗ owns (c : Thread nD τ) arg9 fullShare up ∗ owns (c : Thread nD τ) arg10 fullShare down ∗ tblAt c bexpM xt0 ∗ tblAt c nusedM xt1) -∗ K ⟨⟩))
      ⊢ wp frame (wpE (defs₀ (F := F)) Variants.none c none) E
          (cc0_moe i bexpM (Memref.isWhole_whole _) nusedM (Memref.isWhole_whole _) arg3 harg3 arg4 harg4 arg5 harg5 arg6 harg6 arg7 harg7 arg8 harg8 arg9 harg9 arg10 harg10) K := by
  have hp : ¬Past i xt1 := fun h => (past_iff i xt1).1 h hu
  simp only [cc0_moe_eq_skeleton]; unfold cc0_moe_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4
  obtain rfl := harg9.eq_unread hs0; obtain rfl := harg10.eq_unread hs1
  sl_exec (disch := first | sl_exact hr | sl_exact hu | sl_exact hp)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    try unfold run_keep_used.sl.r_3
    try unfold run_keep_used.sl.v51
    try unfold run_keep_used.sl.v29
    refine (read_strips _ _ _ _ _).trans (usedBlock_eq (hidden_eq x0 ?_ ?_ ?_ ?_ ?_ ?_ ?_ ?_ ?_ ?_) ?_ ?_)
    · exact load_strip arg3 harg3 x0 0 _
    · exact load_strip arg3 harg3 x0 1 _
    · exact load_strip arg3 harg3 x0 2 _
    · exact load_strip arg3 harg3 x0 3 _
    · exact load_strip arg3 harg3 x0 4 _
    · exact load_strip arg3 harg3 x0 5 _
    · exact load_strip arg3 harg3 x0 6 _
    · exact load_strip arg3 harg3 x0 7 _
    · exact (load_full _ harg9 _ _ _ (by decide))
    · exact load_full _ harg5 _ _ _ (by decide)
    · exact (load_full _ harg10 _ _ _ (by decide))
    · exact load_full _ harg7 _ _ _ (by decide)
  isplitl [HS0]
  · iexists _; isplitr
    swap; · iexact HS0
    ipureintro
    exact harg9.read_unread _
  isplitl [HS1]
  · iexists _; isplitr
    swap; · iexact HS1
    ipureintro
    exact harg10.read_unread _
  isplitl [HT0]
  · iexact HT0
  iexact HT1

set_option maxHeartbeats 1000000 in
/-- The casts kept, past the used blocks. -/
theorem run_keep_past (c : Dev nD) (i : grid0.Coords) (arg3 : Memref sig .tc .vmem S4096x128 .f32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole)
    (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1024x2048 .f32) (x2 : Vec F S1x1x2048 .f32) (x3 : Vec F S1x1024x1024 .f32) (x4 : Vec F S1x1x1024 .f32)
    (xt0 : TblBuf (F := F) c bexpM) (xt1 : TblBuf (F := F) c nusedM) (up : Vec F S1024x2048 .bf16) (down : Vec F S1024x1024 .bf16)
    (hr : ¬Recast i xt0) (hu : ¬Used i xt1) (E : Set ℕ) (K : PUnit → sProp (Mach F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ (∃ d, owns (c : Thread nD τ) arg8 fullShare d) ∗ owns (c : Thread nD τ) arg9 fullShare up ∗ owns (c : Thread nD τ) arg10 fullShare down ∗ tblAt c bexpM xt0 ∗ tblAt c nusedM xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare k0_pay12 ∗ owns (c : Thread nD τ) arg9 fullShare up ∗ owns (c : Thread nD τ) arg10 fullShare down ∗ tblAt c bexpM xt0 ∗ tblAt c nusedM xt1) -∗ K ⟨⟩))
      ⊢ wp frame (wpE (defs₀ (F := F)) Variants.none c none) E
          (cc0_moe i bexpM (Memref.isWhole_whole _) nusedM (Memref.isWhole_whole _) arg3 harg3 arg4 harg4 arg5 harg5 arg6 harg6 arg7 harg7 arg8 harg8 arg9 harg9 arg10 harg10) K := by
  have hp : Past i xt1 := (past_iff i xt1).2 hu
  simp only [cc0_moe_eq_skeleton]; unfold cc0_moe_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4
  obtain rfl := harg9.eq_unread hs0; obtain rfl := harg10.eq_unread hs1
  sl_exec (disch := first | sl_exact hr | sl_exact hu | sl_exact hp)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    exact read_full _ _ _ _ _ (by decide)
  isplitl [HS0]
  · iexists _; isplitr
    swap; · iexact HS0
    ipureintro
    exact harg9.read_unread _
  isplitl [HS1]
  · iexists _; isplitr
    swap; · iexact HS1
    ipureintro
    exact harg10.read_unread _
  isplitl [HT0]
  · iexact HT0
  iexact HT1

end Cert.ExpertsIdeal.Run

end
-- ==== Proof.Experts.Words.lean ====
/-
  The words the experts' launch is steered by, and the blocks they choose: block `t` of the rows belongs to the expert named by word `t`
  of the table.
-/
module

public import proofs.«01_k».proof.Proof.Experts.Kit
public import Idealize.ShloMosaic.Lib.Pipeline.ValueKit

@[expose] public section

set_option maxRecDepth 16384

noncomputable section

namespace Cert.ExpertsIdeal.Run

open Idealize.ShloMosaic Idealize.ShloMosaic.TcCoe Idealize.SL Idealize.SL.Sem
open Cert.ExpertsIdeal Cert.ExpertsIdeal.Gen

variable {F : FTy → Type} [FloatOps F]
variable (m : (ℓ : Loc nD τ sig) → Buf (Elt F) ℓ)

/-- The expert of a block, and the number of used blocks. -/
def expert (n : Fin 288) : BitVec 32 := m ((Dev.tc (0 : Dev nD)).loc main_arg1) (ix1 n)
def count : BitVec 32 := m ((Dev.tc (0 : Dev nD)).loc main_arg2) (ix1 0)

theorem coord (t : Fin grid0.N) : (grid0.coords t 0).val = t.val :=
  (by decide +kernel : ∀ t : Fin grid0.N, (grid0.coords t 0).val = t.val) t

theorem point_lt (t : Fin grid0.N) : t.val < 288 := Nat.lt_of_lt_of_eq t.isLt (by decide +kernel)

theorem expert_at (i : grid0.Coords) : (tbl m).at 0 (Rect.unit (s := S288) ![(Scalar.indexCast (BitVec.ofNat 32 (i 0).val)).toNat] S1.size (k0_off1_inb i)) numel1_S1
    = expert m (i 0) := by
  unfold expert
  have h : (i 0).val < 288 := (i 0).isLt
  have e : (Scalar.indexCast (BitVec.ofNat 32 (i 0).val) : Index).toNat = (i 0).val := congrFun (k0_off1_eq i) 0
  refine congrArg (m ((Dev.tc (0 : Dev nD)).loc main_arg1)) (funext fun a => Fin.ext ?_)
  match a with
  | ⟨0, _⟩ => show (Scalar.indexCast (BitVec.ofNat 32 (i 0).val) : Index).toNat + 1 * 0 = (i 0).val; omega

theorem word_here (c : Dev nD) (i : grid0.Coords) : wordOf (c := c) (tbl m 0) (k0_off1 i) (k0_off1_inb i) = expert m (i 0) :=
  expert_at m i

theorem count_word (c : Dev nD) : nusedOf (c := c) (tbl m 1) = count m := by
  unfold count
  exact congrArg (m ((Dev.tc (0 : Dev nD)).loc main_arg2)) (funext fun a => Fin.ext (match a with | ⟨0, _⟩ => rfl))

theorem word_before (c : Dev nD) (i : grid0.Coords) (h : (i 0).val ≠ 0) :
    wordOf (c := c) (tbl m 0) (k0_off2 i) (k0_off2_inb i) = expert m ⟨(i 0).val - 1, by have : (i 0).val < 288 := (i 0).isLt; omega⟩ := by
  unfold expert
  have h288 : (i 0).val < 288 := (i 0).isLt
  have e : k0_off2 i 0 = (i 0).val - 1 := by
    have r_i0 := h288
    have h_arg0 : Affine.IsInt (BitVec.ofNat 32 (i 0).val) (((i 0).val : Int)) := Affine.ofNat _ (by omega)
    have h_c1_i32 : Affine.IsInt 1#32 (1) := Affine.ofNat _ (by omega)
    have h_v3 : Affine.IsInt _ (((i 0).val : Int) - 1) := Affine.subi h_arg0 h_c1_i32 (by omega)
    have h_c0_i32_0 : Affine.IsInt 0#32 (0) := Affine.ofNat _ (by omega)
    have h_v4 : Affine.IsInt _ ((max (((i 0).val : Int) - 1) 0)) := Affine.maxsi h_v3 h_c0_i32_0 (by omega)
    have h_v5 : Affine.IsInt _ ((max (((i 0).val : Int) - 1) 0)) := Affine.indexCast h_v4
    have e : k0_off2 i = ![(i 0).val - 1] := Affine.vec_cons h_v5 (by omega) <| Affine.vec_nil
    rw [e]; rfl
  refine congrArg (m ((Dev.tc (0 : Dev nD)).loc main_arg1)) (funext fun a => Fin.ext ?_)
  match a with
  | ⟨0, _⟩ => show k0_off2 i 0 + 1 * 0 = (i 0).val - 1; omega

/-- Where the casts are kept there is a block before, of the same expert. -/
theorem kept (c : Dev nD) (i : grid0.Coords) (h : ¬Recast (c := c) i (tbl m 0)) :
    (i 0).val ≠ 0 ∧ ∀ k : Fin 288, k.val = (i 0).val - 1 → expert m (i 0) = expert m k := by
  unfold Recast at h
  rw [word_here] at h
  have key : ∀ (a : BitVec 32) (w w' : BitVec 32), ¬Scalar.cmpi .ne (Scalar.extui (Scalar.ori (Scalar.cmpi .eq a 0#32) (Scalar.cmpi .ne w w'))) 0#32 = 1#1 → a ≠ 0#32 ∧ w = w' := by
    intro a w w' h
    change ¬IntOp.cmpi .ne (BitVec.setWidth 32 (IntOp.ori (IntOp.cmpi .eq a 0#32) (IntOp.cmpi .ne w w'))) 0#32 = 1#1 at h
    rw [WordCmp.cmpi_eq_eq, WordCmp.cmpi_ne_eq w w', WordCmp.ori_ofBool] at h
    by_cases ha : a = 0#32
    · simp [ha] at h; exact absurd (by decide) h
    · by_cases hw : w = w'
      · exact ⟨ha, hw⟩
      · simp [hw] at h; exact absurd (by decide) h
  obtain ⟨h0, h1⟩ := key _ _ _ h
  have h0' : (i 0).val ≠ 0 := fun e => h0 (by rw [e])
  refine ⟨h0', fun k hk => ?_⟩
  rw [word_before m c i h0'] at h1
  exact h1.trans (congrArg (expert m) (Fin.ext hk.symm))

/-! ## The blocks the words choose -/

variable (hO : Ok m)

theorem index1 (t : Fin (pipe m hO).N) : ((pipe m hO).win 1).index t = ![(expert m (grid0.coords t 0)).toNat, 0, 0] :=
  congrArg (fun w : BitVec 32 => ![w.toNat, 0, 0]) (expert_at m (grid0.coords t))

theorem index3 (t : Fin (pipe m hO).N) : ((pipe m hO).win 3).index t = ![(expert m (grid0.coords t 0)).toNat, 0, 0] :=
  congrArg (fun w : BitVec 32 => ![w.toNat, 0, 0]) (expert_at m (grid0.coords t))

theorem expert_lt (t : Fin (pipe m hO).N) : (expert m (grid0.coords t 0)).toNat < 32 := by
  obtain ⟨h, -⟩ := hO.2.1 (grid0.coords t)
  have := h 0
  rw [show cc0_transform_1 k0_off1_inb numel1_S1 (tbl m) (grid0.coords t) = ![(expert m (grid0.coords t 0)).toNat, 0, 0] from index1 m hO t] at this
  have h2 : ((expert m (grid0.coords t 0)).toNat + 1) * 1 ≤ 32 := this
  omega

theorem block1 (c : Dev nD) (t : Fin (pipe m hO).N) (a : Fin 1024) (b : Fin 2048) :
    iblk m hO c 1 t (ix3 0 a b) = V m c main_arg3 (ix3 (⟨(expert m (grid0.coords t 0)).toNat, expert_lt m hO t⟩ : Fin 32) a b) := by
  blk_simp [iblk, index1 m hO t]
  blk_ext [index1 m hO t]

theorem block3 (c : Dev nD) (t : Fin (pipe m hO).N) (a : Fin 1024) (b : Fin 1024) :
    iblk m hO c 3 t (ix3 0 a b) = V m c main_arg5 (ix3 (⟨(expert m (grid0.coords t 0)).toNat, expert_lt m hO t⟩ : Fin 32) a b) := by
  blk_simp [iblk, index3 m hO t]
  blk_ext [index3 m hO t]

end Cert.ExpertsIdeal.Run

end
-- ==== Proof.Experts.Frame.lean ====
/-
  The experts' launch: at every point the body leaves the output block of its point, and the casts of its expert's weights in the two
  scratch buffers. Where the casts are kept, the block before belongs to the same expert, and so they are this block's casts too.
-/
module

public import proofs.«01_k».proof.Proof.Experts.Runs
public import proofs.«01_k».proof.Proof.Experts.Words

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ExpertsIdeal Cert.ExpertsIdeal.Gen

variable {F : FTy → Type} [FloatOps F]
variable (m : (ℓ : Loc nD τ sig) → Buf (Elt F) ℓ)
variable (ρ : Dev nD → PrngReg) (hO : Ok m)

/-- The casts of a point's weights. -/
def upAt (c : Dev nD) (t : Fin (pipe m hO).N) : Vec F S1024x2048 .bf16 := k0_pay1 (iblk m hO c 1 t)
def downAt (c : Dev nD) (t : Fin (pipe m hO).N) : Vec F S1024x1024 .bf16 := k0_pay2 (iblk m hO c 3 t)

open Classical in
/-- The output block a point leaves. -/
def outAt (c : Dev nD) (t : Fin (pipe m hO).N) : Vec F S4096x128 .f32 :=
  if Used (c := c) (grid0.coords t) (tbl m 1) then
    usedBlock (iblk m hO c 0 t) (upAt m hO c t) (iblk m hO c 2 t) (downAt m hO c t) (iblk m hO c 4 t)
  else k0_pay12

theorem outAt_used (c : Dev nD) (t : Fin (pipe m hO).N) (h : Used (c := c) (grid0.coords t) (tbl m 1)) :
    outAt m hO c t = usedBlock (iblk m hO c 0 t) (upAt m hO c t) (iblk m hO c 2 t) (downAt m hO c t) (iblk m hO c 4 t) := if_pos h

theorem outAt_past (c : Dev nD) (t : Fin (pipe m hO).N) (h : ¬Used (c := c) (grid0.coords t) (tbl m 1)) : outAt m hO c t = k0_pay12 := if_neg h

/-- The two scratch buffers at given casts. -/
abbrev castsAt (c : Dev nD) (up : Vec F S1024x2048 .bf16) (down : Vec F S1024x1024 .bf16) : sProp (Mach F) :=
  iprop(iprop(owns (c : Thread nD τ) upM fullShare up ∗ owns (c : Thread nD τ) downM fullShare down) ∗ (∃ r, prngReg c r))

/-- What is held before a point. -/
def PhiS (c : Dev nD) : (n : ℕ) → n ≤ (pipe m hO).N → sProp (Mach F)
  | 0, _ => iprop(Pipeline.ΦA spec0 c ∗ Pipeline.ΦT pre0 (tbl m) c)
  | n + 1, hn => iprop(castsAt c (upAt m hO c ⟨n, hn⟩) (downAt m hO c ⟨n, hn⟩) ∗ Pipeline.ΦT pre0 (tbl m) c)

theorem PhiS_zero (c : Dev nD) (n : ℕ) (h : n ≤ (pipe m hO).N) (hz : n = 0) : PhiS m hO c n h = iprop(Pipeline.ΦA spec0 c ∗ Pipeline.ΦT pre0 (tbl m) c) := by
  subst hz; rfl

theorem PhiS_pos (c : Dev nD) (n : ℕ) (h : n ≤ (pipe m hO).N) (hz : n ≠ 0) :
    PhiS m hO c n h = iprop(castsAt c (upAt m hO c ⟨n - 1, by omega⟩) (downAt m hO c ⟨n - 1, by omega⟩) ∗ Pipeline.ΦT pre0 (tbl m) c) := by
  cases n with
  | zero => exact absurd rfl hz
  | succ n => rfl

/-- Casts at anything are what the launch hands over. -/
theorem PhiS_any (c : Dev nD) (n : ℕ) (h : n ≤ (pipe m hO).N) :
    PhiS m hO c n h ⊢ iprop(iprop(iprop((∃ d, owns (c : Thread nD τ) upM fullShare d) ∗ (∃ d, owns (c : Thread nD τ) downM fullShare d)) ∗ (∃ r, prngReg c r)) ∗ Pipeline.ΦT pre0 (tbl m) c) := by
  by_cases hz : n = 0
  · rw [PhiS_zero m hO c n h hz, rest_eq]
  · rw [PhiS_pos m hO c n h hz]
    iintro ⟨⟨⟨HS0, HS1⟩, Hg⟩, HT⟩
    isplitl [HS0 HS1 Hg]
    · isplitl [HS0 HS1]
      · isplitl [HS0]
        · iexists _; iexact HS0
        iexists _; iexact HS1
      iexact Hg
    iexact HT

/-- The launch's data. -/
def dats (_ : Fin 1) (c : Dev nD) : Dat τ (Elt F) Unit ℕ (UR sig nD τ) ℕ (pipe m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := PhiS m hO c t.val (Nat.le_of_lt_succ t.isLt)
  q _ := fullShare
  owed _ := 0

theorem A_eq (c : Dev nD) (w : Fin (pipe m hO).W) : (dats m hO 0 c).A w = V m c (Pipeline.arrRef spec0 w) := by
  dsimp only [dats]

theorem PhiS_castSucc (c : Dev nD) (t : Fin (pipe m hO).N) : (dats m hO 0 c).Φ t.castSucc = PhiS m hO c t.val (Nat.le_of_lt t.isLt) := by
  dsimp only [dats]; exact Pipeline.Dat.Φ_castSucc (PhiS m hO c) t

theorem after0 (c : Dev nD) (t : Fin (pipe m hO).N) : (dats m hO 0 c).after 0 t = iblk m hO c 0 t := by dsimp only [dats]; try rfl
theorem after1 (c : Dev nD) (t : Fin (pipe m hO).N) : (dats m hO 0 c).after 1 t = iblk m hO c 1 t := by dsimp only [dats]; try rfl
theorem after2 (c : Dev nD) (t : Fin (pipe m hO).N) : (dats m hO 0 c).after 2 t = iblk m hO c 2 t := by dsimp only [dats]; try rfl
theorem after3 (c : Dev nD) (t : Fin (pipe m hO).N) : (dats m hO 0 c).after 3 t = iblk m hO c 3 t := by dsimp only [dats]; try rfl
theorem after4 (c : Dev nD) (t : Fin (pipe m hO).N) : (dats m hO 0 c).after 4 t = iblk m hO c 4 t := by dsimp only [dats]; try rfl
theorem after5 (c : Dev nD) (t : Fin (pipe m hO).N) : (dats m hO 0 c).after 5 t = outAt m hO c t := by dsimp only [dats]; try rfl

theorem before0 (c : Dev nD) (t : Fin (pipe m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans (by unfold Dat.fetched Dat.blockOf iblk; rw [A_eq]; try rfl)
theorem before1 (c : Dev nD) (t : Fin (pipe m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans (by unfold Dat.fetched Dat.blockOf iblk; rw [A_eq]; try rfl)
theorem before2 (c : Dev nD) (t : Fin (pipe m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans (by unfold Dat.fetched Dat.blockOf iblk; rw [A_eq]; try rfl)
theorem before3 (c : Dev nD) (t : Fin (pipe m hO).N) (d) : (dats m hO 0 c).before 3 t d = iblk m hO c 3 t :=
  ((dats m hO 0 c).before_in_eq_fetched 3 rfl (fun _ => rfl) (fun _ _ _ => rfl) (fun t => by rw [after3]; unfold Dat.blockOf iblk; rw [A_eq]; try rfl) t d).trans (by unfold Dat.fetched Dat.blockOf iblk; rw [A_eq]; try rfl)
theorem before4 (c : Dev nD) (t : Fin (pipe m hO).N) (d) : (dats m hO 0 c).before 4 t d = iblk m hO c 4 t :=
  ((dats m hO 0 c).before_in_eq_fetched 4 rfl (fun _ => rfl) (fun _ _ _ => rfl) (fun t => by rw [after4]; unfold Dat.blockOf iblk; rw [A_eq]; try rfl) t d).trans (by unfold Dat.fetched Dat.blockOf iblk; rw [A_eq]; try rfl)

/-! ## The body at a point -/

/-- One expert's slice of a stack of matrices. -/
def pick {q : ℕ} (W : (Shape.mk 3 ![32, 1024, q]).Idx → F .f32) (e : BitVec 32) : (Shape.mk 3 ![1, 1024, q]).Idx → F .f32 := fun j =>
  W (ix3 (⟨e.toNat % 32, Nat.mod_lt _ (by decide)⟩ : Fin 32) (⟨(j 1).val, (j 1).isLt⟩ : Fin 1024) (⟨(j 2).val, (j 2).isLt⟩ : Fin q))

theorem lead_unit {q : ℕ} (j : (Shape.mk 3 ![1, 1024, q]).Idx) : j = ix3 (0 : Fin 1) (⟨(j 1).val, (j 1).isLt⟩ : Fin 1024) (⟨(j 2).val, (j 2).isLt⟩ : Fin q) :=
  funext fun a => match a with
    | ⟨0, _⟩ => Subsingleton.elim (α := Fin 1) _ _
    | ⟨1, _⟩ => rfl
    | ⟨2, _⟩ => rfl

theorem weights1 (c : Dev nD) (t : Fin (pipe m hO).N) : (iblk m hO c 1 t : Vec F S1x1024x2048 .f32) = pick (V m c main_arg3) (expert m (grid0.coords t 0)) := by
  refine funext fun (j : S1x1024x2048.Idx) => ?_
  refine (congrArg (iblk m hO c 1 t) (lead_unit j)).trans ((block1 m hO c t _ _).trans ?_)
  unfold pick
  exact congrArg (fun e : Fin 32 => V m c main_arg3 (ix3 e (⟨(j 1).val, (j 1).isLt⟩ : Fin 1024) (⟨(j 2).val, (j 2).isLt⟩ : Fin 2048)))
    (Fin.ext (Nat.mod_eq_of_lt (expert_lt m hO t)).symm)

theorem weights3 (c : Dev nD) (t : Fin (pipe m hO).N) : (iblk m hO c 3 t : Vec F S1x1024x1024 .f32) = pick (V m c main_arg5) (expert m (grid0.coords t 0)) := by
  refine funext fun (j : S1x1024x1024.Idx) => ?_
  refine (congrArg (iblk m hO c 3 t) (lead_unit j)).trans ((block3 m hO c t _ _).trans ?_)
  unfold pick
  exact congrArg (fun e : Fin 32 => V m c main_arg5 (ix3 e (⟨(j 1).val, (j 1).isLt⟩ : Fin 1024) (⟨(j 2).val, (j 2).isLt⟩ : Fin 1024)))
    (Fin.ext (Nat.mod_eq_of_lt (expert_lt m hO t)).symm)

theorem casts_kept (c : Dev nD) (t : Fin (pipe m hO).N) (h : ¬Recast (c := c) (grid0.coords t) (tbl m 0)) :
    ∃ hz : t.val ≠ 0, upAt m hO c ⟨t.val - 1, by have := t.isLt; omega⟩ = upAt m hO c t ∧ downAt m hO c ⟨t.val - 1, by have := t.isLt; omega⟩ = downAt m hO c t := by
  obtain ⟨hz, hk⟩ := kept m c (grid0.coords t) h
  have et := coord t
  have hz' : t.val ≠ 0 := fun e => hz (et.trans e)
  have ee : expert m (grid0.coords t 0) = expert m (grid0.coords (⟨t.val - 1, by have := t.isLt; omega⟩ : Fin grid0.N) 0) :=
    hk _ ((coord _).trans (congrArg (· - 1) et.symm))
  refine ⟨hz', ?_, ?_⟩
  · exact congrArg k0_pay1 ((weights1 m hO c _).trans ((congrArg (fun e : BitVec 32 => pick (V m c main_arg3) e) ee.symm).trans (weights1 m hO c t).symm))
  · exact congrArg k0_pay2 ((weights3 m hO c _).trans ((congrArg (fun e : BitVec 32 => pick (V m c main_arg5) e) ee.symm).trans (weights3 m hO c t).symm))

/-- What the body is called with at a point, -/
def bodyPre (c : Dev nD) (t : Fin (pipe m hO).N) : sProp (Mach F) :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d))
    ∗ (∃ d, owns (c : Thread nD τ) (st4 m hO t) fullShare ((dats m hO 0 c).before 4 t d))
    ∗ (∃ d, owns (c : Thread nD τ) (st5 m hO t) fullShare ((dats m hO 0 c).before 5 t d)))

/-- and what it returns. -/
def bodyPost (c : Dev nD) (t : Fin (pipe m hO).N) : sProp (Mach F) :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t)
    ∗ owns (c : Thread nD τ) (st4 m hO t) fullShare ((dats m hO 0 c).after 4 t)
    ∗ owns (c : Thread nD τ) (st5 m hO t) fullShare ((dats m hO 0 c).after 5 t))

/-- The state handed to the four runs: the blocks, the tables, the owed nothing and the generator. -/
theorem sound_body (c : Dev nD) (t : Fin (pipe m hO).N) :
    bodyPre m hO c t ⊢ wp frame (wpE (defs₀ (F := F)) Variants.none c none) Set.univ (bodyAt m hO t) (fun _ => bodyPost m hO c t) := by
  unfold bodyPre bodyPost
  simp only [before0, before1, before2, before3, before4, after0, after1, after2, after3, after4, after5]
  rw [PhiS_castSucc, show (dats m hO 0 c).Φ t.succ = iprop(castsAt c (upAt m hO c t) (downAt m hO c t) ∗ Pipeline.ΦT pre0 (tbl m) c) from rfl,
    show (dats m hO 0 c).owesAt () t.castSucc = (dats m hO 0 c).owesAt () t.succ from rfl]
  by_cases hr : Recast (c := c) (grid0.coords t) (tbl m 0)
  · refine (sep_mono_left (PhiS_any m hO c t.val (Nat.le_of_lt t.isLt))).trans ?_
    rw [tables_eq]
    iintro ⟨⟨⟨⟨HS0, HS1⟩, Hg⟩, ⟨HT0, HT1⟩⟩, Hw, ⟨%d0, H0⟩, ⟨%d1, H1⟩, ⟨%d2, H2⟩, ⟨%d3, H3⟩, ⟨%d4, H4⟩, H5⟩
    by_cases hu : Used (c := c) (grid0.coords t) (tbl m 1)
    · rw [outAt_used m hO c t hu]
      iapply run_recast_used c (grid0.coords t) (st0 m hO t) (whole0 m hO t) (st1 m hO t) (whole1 m hO t) (st2 m hO t) (whole2 m hO t) (st3 m hO t) (whole3 m hO t)
        (st4 m hO t) (whole4 m hO t) (st5 m hO t) (whole5 m hO t) upM (Memref.isWhole_whole _) downM (Memref.isWhole_whole _)
        (iblk m hO c 0 t) (iblk m hO c 1 t) (iblk m hO c 2 t) (iblk m hO c 3 t) (iblk m hO c 4 t) (tbl m 0) (tbl m 1) hr hu
      isplitl [H0]; · iexact H0
      isplitl [H1]; · iexact H1
      isplitl [H2]; · iexact H2
      isplitl [H3]; · iexact H3
      isplitl [H4]; · iexact H4
      isplitl [H5]
      · icases H5 with ⟨%d5, H5⟩; iexists _; iexact H5
      isplitl [HS0]; · iexact HS0
      isplitl [HS1]; · iexact HS1
      isplitl [HT0]; · iexact HT0
      isplitl [HT1]; · iexact HT1
      iintro ⟨H0, H1, H2, H3, H4, H5, HS0, HS1, HT0, HT1⟩
      isplitl [HS0 HS1 Hg HT0 HT1]
      · isplitl [HS0 HS1 Hg]
        · isplitl [HS0 HS1]
          · isplitl [HS0]; · iexact HS0
            iexact HS1
          iexact Hg
        isplitl [HT0]; · iexact HT0
        iexact HT1
      isplitl [Hw]; · iexact Hw
      isplitl [H0]; · iexact H0
      isplitl [H1]; · iexact H1
      isplitl [H2]; · iexact H2
      isplitl [H3]; · iexact H3
      isplitl [H4]; · iexact H4
      iexact H5
    · rw [outAt_past m hO c t hu]
      iapply run_recast_past c (grid0.coords t) (st0 m hO t) (whole0 m hO t) (st1 m hO t) (whole1 m hO t) (st2 m hO t) (whole2 m hO t) (st3 m hO t) (whole3 m hO t)
        (st4 m hO t) (whole4 m hO t) (st5 m hO t) (whole5 m hO t) upM (Memref.isWhole_whole _) downM (Memref.isWhole_whole _)
        (iblk m hO c 0 t) (iblk m hO c 1 t) (iblk m hO c 2 t) (iblk m hO c 3 t) (iblk m hO c 4 t) (tbl m 0) (tbl m 1) hr hu
      isplitl [H0]; · iexact H0
      isplitl [H1]; · iexact H1
      isplitl [H2]; · iexact H2
      isplitl [H3]; · iexact H3
      isplitl [H4]; · iexact H4
      isplitl [H5]
      · icases H5 with ⟨%d5, H5⟩; iexists _; iexact H5
      isplitl [HS0]; · iexact HS0
      isplitl [HS1]; · iexact HS1
      isplitl [HT0]; · iexact HT0
      isplitl [HT1]; · iexact HT1
      iintro ⟨H0, H1, H2, H3, H4, H5, HS0, HS1, HT0, HT1⟩
      isplitl [HS0 HS1 Hg HT0 HT1]
      · isplitl [HS0 HS1 Hg]
        · isplitl [HS0 HS1]
          · isplitl [HS0]; · iexact HS0
            iexact HS1
          iexact Hg
        isplitl [HT0]; · iexact HT0
        iexact HT1
      isplitl [Hw]; · iexact Hw
      isplitl [H0]; · iexact H0
      isplitl [H1]; · iexact H1
      isplitl [H2]; · iexact H2
      isplitl [H3]; · iexact H3
      isplitl [H4]; · iexact H4
      iexact H5
  · obtain ⟨hz, eu, ed⟩ := casts_kept m hO c t hr
    rw [PhiS_pos m hO c t.val _ hz, eu, ed, tables_eq]
    iintro ⟨⟨⟨⟨HS0, HS1⟩, Hg⟩, ⟨HT0, HT1⟩⟩, Hw, ⟨%d0, H0⟩, ⟨%d1, H1⟩, ⟨%d2, H2⟩, ⟨%d3, H3⟩, ⟨%d4, H4⟩, H5⟩
    by_cases hu : Used (c := c) (grid0.coords t) (tbl m 1)
    · rw [outAt_used m hO c t hu]
      iapply run_keep_used c (grid0.coords t) (st0 m hO t) (whole0 m hO t) (st1 m hO t) (whole1 m hO t) (st2 m hO t) (whole2 m hO t) (st3 m hO t) (whole3 m hO t)
        (st4 m hO t) (whole4 m hO t) (st5 m hO t) (whole5 m hO t) upM (Memref.isWhole_whole _) downM (Memref.isWhole_whole _)
        (iblk m hO c 0 t) (iblk m hO c 1 t) (iblk m hO c 2 t) (iblk m hO c 3 t) (iblk m hO c 4 t) (tbl m 0) (tbl m 1) (upAt m hO c t) (downAt m hO c t) hr hu
      isplitl [H0]; · iexact H0
      isplitl [H1]; · iexact H1
      isplitl [H2]; · iexact H2
      isplitl [H3]; · iexact H3
      isplitl [H4]; · iexact H4
      isplitl [H5]
      · icases H5 with ⟨%d5, H5⟩; iexists _; iexact H5
      isplitl [HS0]; · iexact HS0
      isplitl [HS1]; · iexact HS1
      isplitl [HT0]; · iexact HT0
      isplitl [HT1]; · iexact HT1
      iintro ⟨H0, H1, H2, H3, H4, H5, HS0, HS1, HT0, HT1⟩
      isplitl [HS0 HS1 Hg HT0 HT1]
      · isplitl [HS0 HS1 Hg]
        · isplitl [HS0 HS1]
          · isplitl [HS0]; · iexact HS0
            iexact HS1
          iexact Hg
        isplitl [HT0]; · iexact HT0
        iexact HT1
      isplitl [Hw]; · iexact Hw
      isplitl [H0]; · iexact H0
      isplitl [H1]; · iexact H1
      isplitl [H2]; · iexact H2
      isplitl [H3]; · iexact H3
      isplitl [H4]; · iexact H4
      iexact H5
    · rw [outAt_past m hO c t hu]
      iapply run_keep_past c (grid0.coords t) (st0 m hO t) (whole0 m hO t) (st1 m hO t) (whole1 m hO t) (st2 m hO t) (whole2 m hO t) (st3 m hO t) (whole3 m hO t)
        (st4 m hO t) (whole4 m hO t) (st5 m hO t) (whole5 m hO t) upM (Memref.isWhole_whole _) downM (Memref.isWhole_whole _)
        (iblk m hO c 0 t) (iblk m hO c 1 t) (iblk m hO c 2 t) (iblk m hO c 3 t) (iblk m hO c 4 t) (tbl m 0) (tbl m 1) (upAt m hO c t) (downAt m hO c t) hr hu
      isplitl [H0]; · iexact H0
      isplitl [H1]; · iexact H1
      isplitl [H2]; · iexact H2
      isplitl [H3]; · iexact H3
      isplitl [H4]; · iexact H4
      isplitl [H5]
      · icases H5 with ⟨%d5, H5⟩; iexists _; iexact H5
      isplitl [HS0]; · iexact HS0
      isplitl [HS1]; · iexact HS1
      isplitl [HT0]; · iexact HT0
      isplitl [HT1]; · iexact HT1
      iintro ⟨H0, H1, H2, H3, H4, H5, HS0, HS1, HT0, HT1⟩
      isplitl [HS0 HS1 Hg HT0 HT1]
      · isplitl [HS0 HS1 Hg]
        · isplitl [HS0 HS1]
          · isplitl [HS0]; · iexact HS0
            iexact HS1
          iexact Hg
        isplitl [HT0]; · iexact HT0
        iexact HT1
      isplitl [Hw]; · iexact Hw
      isplitl [H0]; · iexact H0
      isplitl [H1]; · iexact H1
      isplitl [H2]; · iexact H2
      isplitl [H3]; · iexact H3
      isplitl [H4]; · iexact H4
      iexact H5

/-- The launch's obligation at every point. The result's block is written back at every point, and so left at its contents even where the body may leave it alone. -/
theorem body_obligation (c : Dev nD) : BodyObligation (dats (F := F) m hO 0 c) (defs₀ (F := F)) Variants.none () Set.univ := fun t => by
  rw [bigSep_W0, bigSep_W0, defs_row m hO]
  refine triple_restated (sound_body m hO c t) rfl .rfl fun _ => ?_
  have hf := flush5 (adm m hO) t
  unfold bodyPost
  refine sep_mono_right (sep_mono_right (sep_mono_right (sep_mono_right (sep_mono_right (sep_mono_right (sep_mono_right ?_))))))
  show owns (c : Thread nD τ) (st5 m hO t) fullShare ((dats m hO 0 c).after 5 t) ⊢
    match (pipe m hO).idle 5 ((pipe m hO).grid.coords t) with
    | true => match ((pipe m hO).win 5).flush t with
      | false => iprop(∃ d, owns (c : Thread nD τ) (st5 m hO t) fullShare ((dats m hO 0 c).before 5 t d))
      | true => owns (c : Thread nD τ) (st5 m hO t) fullShare ((dats m hO 0 c).after 5 t)
    | false => owns (c : Thread nD τ) (st5 m hO t) fullShare ((dats m hO 0 c).after 5 t)
  rw [hf]
  cases (pipe m hO).idle 5 ((pipe m hO).grid.coords t) <;> exact .rfl

/-- What the launch hands over is what is held before the first point, -/
theorem hin (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]

/-- and what is held after the last one gives it back. -/
theorem hout (c : Dev nD) : (dats m hO 0 c).Φ (Fin.last (pipe m hO).N) ⊢ Pipeline.ΦA spec0 c := by
  rw [show (dats m hO 0 c).Φ (Fin.last (pipe m hO).N) = PhiS m hO c (pipe m hO).N le_rfl from rfl]
  refine (PhiS_any m hO c _ _).trans ?_
  rw [rest_eq]
  iintro ⟨H, -⟩
  iexact H

/-! ## The run and the frame -/

set_option backward.isDefEq.respectTransparency.types false in
/-- The launch runs, and every final state has every array at what the launch's data say, and every counter at zero. -/
theorem run_main_quiescent : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

include hO in
/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats m hO 0 c).arrAt_in 0 rfl _).trans (A_eq m hO c 0)),
      (h c).2 main_arg1 (by decide : main_arg1 ∈ Pipeline.restRefs sig spec0),
      (h c).2 main_arg2 (by decide : main_arg2 ∈ Pipeline.restRefs sig spec0),
      ((h c).1 1).trans (((dats m hO 0 c).arrAt_in 1 rfl _).trans (A_eq m hO c 1)),
      ((h c).1 2).trans (((dats m hO 0 c).arrAt_in 2 rfl _).trans (A_eq m hO c 2)),
      ((h c).1 3).trans (((dats m hO 0 c).arrAt_in 3 rfl _).trans (A_eq m hO c 3)),
      ((h c).1 4).trans (((dats m hO 0 c).arrAt_in 4 rfl _).trans (A_eq m hO c 4))⟩) (run_main m ρ hO)

include hO in
/-- The launch runs to the end, its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.ExpertsIdeal.Run

end
-- ==== Proof.Experts.Chosen.lean ====
/-
  The experts' launch is admissible when every word of the table names one of the 32 experts and at least one block is used.
-/
module

public import proofs.«01_k».proof.Proof.Experts.Words

@[expose] public section

set_option maxRecDepth 16384

noncomputable section

namespace Cert.ExpertsIdeal.Run

open Idealize.ShloMosaic Idealize.ShloMosaic.TcCoe Idealize.SL Idealize.SL.Sem
open Cert.ExpertsIdeal Cert.ExpertsIdeal.Gen

variable {F : FTy → Type} [FloatOps F]
variable (m : (ℓ : Loc nD τ sig) → Buf (Elt F) ℓ)

/-- The block of rows a point reads: its own, or the last used one. -/
theorem rows_block (hn : 1 ≤ (count m).toInt) (i : grid0.Coords) :
    cc0_transform_0 inb_S1_S1_0 numel1_S1 (tbl m) i = ![(min ((i 0).val : Int) ((count m).toInt - 1)).toNat, 0] := by
  have r : (i 0).val < 288 := (i 0).isLt
  have hl := BitVec.toInt_lt (x := count m)
  have ha : Affine.IsInt (BitVec.ofNat 32 (i 0).val) ((i 0).val : Int) := Affine.ofNat _ (by omega)
  have hc : Affine.IsInt (count m) (count m).toInt := Affine.word _
  have h1 : Affine.IsInt 1#32 1 := Affine.ofNat _ (by omega)
  have hs : Affine.IsInt _ ((count m).toInt - 1) := Affine.subi hc h1 (by omega)
  have hm : Affine.IsInt _ (min ((i 0).val : Int) ((count m).toInt - 1)) := Affine.minsi ha hs rfl
  have e := Affine.vec_cons (f := ![0]) (g := ![0]) (y := (min ((i 0).val : Int) ((count m).toInt - 1)).toNat) hm (by omega) rfl
  have ec : (tbl m).at 1 (Rect.unit (s := S1) ![0] S1.size inb_S1_S1_0) numel1_S1 = count m := count_word m 0
  unfold cc0_transform_0
  rw [ec]
  exact e

theorem ok_of (hb : ∀ k : Fin 288, (expert m k).toNat < 32) (hn : 1 ≤ (count m).toInt) : Ok m := by
  have two : ∀ (a b : ℕ) (i : grid0.Coords), ∀ x : Fin 3, (![(expert m (i 0)).toNat, 0, 0] x + 1) * (![1, a, b] : Fin 3 → ℕ) x ≤ (![32, a, b] : Fin 3 → ℕ) x := by
    intro a b i x
    have h := hb (i 0)
    match x with
    | ⟨0, _⟩ => show ((expert m (i 0)).toNat + 1) * 1 ≤ 32; omega
    | ⟨1, _⟩ => show (0 + 1) * a ≤ a; omega
    | ⟨2, _⟩ => show (0 + 1) * b ≤ b; omega
  have ex : ∀ i : grid0.Coords, ∀ f : BitVec 32 → Fin 3 → ℕ, f ((tbl m).at 0 (Rect.unit (s := S288) ![(Scalar.indexCast (BitVec.ofNat 32 (i 0).val)).toNat] S1.size (k0_off1_inb i)) numel1_S1) = f (expert m (i 0)) :=
    fun i f => congrArg f (expert_at m i)
  refine ⟨fun i => ⟨?_, .inl rfl⟩, fun i => ⟨?_, .inl rfl⟩, fun i => ⟨?_, .inl rfl⟩, fun i => ⟨?_, .inl rfl⟩, fun i => ⟨?_, .inl rfl⟩⟩
  · intro a
    rw [rows_block m hn i]
    have r : (i 0).val < 288 := (i 0).isLt
    match a with
    | ⟨0, _⟩ => show ((min ((i 0).val : Int) ((count m).toInt - 1)).toNat + 1) * 4096 ≤ 1179648; omega
    | ⟨1, _⟩ => show (0 + 1) * 128 ≤ 128; omega
  · intro a
    rw [show cc0_transform_1 k0_off1_inb numel1_S1 (tbl m) i = ![(expert m (i 0)).toNat, 0, 0] from ex i fun w => ![w.toNat, 0, 0]]
    exact two 1024 2048 i a
  · intro a
    rw [show cc0_transform_2 k0_off1_inb numel1_S1 (tbl m) i = ![(expert m (i 0)).toNat, 0, 0] from ex i fun w => ![w.toNat, 0, 0]]
    exact two 1 2048 i a
  · intro a
    rw [show cc0_transform_3 k0_off1_inb numel1_S1 (tbl m) i = ![(expert m (i 0)).toNat, 0, 0] from ex i fun w => ![w.toNat, 0, 0]]
    exact two 1024 1024 i a
  · intro a
    rw [show cc0_transform_4 k0_off1_inb numel1_S1 (tbl m) i = ![(expert m (i 0)).toNat, 0, 0] from ex i fun w => ![w.toNat, 0, 0]]
    exact two 1 1024 i a

theorem used_iff (c : Dev nD) (i : grid0.Coords) : Used (c := c) i (tbl m 1) ↔ ((i 0).val : Int) < (count m).toInt := by
  have r : (i 0).val < 288 := (i 0).isLt
  unfold Used
  rw [count_word]
  have e : (BitVec.ofNat 32 (i 0).val).toInt = ((i 0).val : Int) := WordCmp.toInt_ofNat_of_lt (by omega)
  rw [← e]
  unfold k0_cond2
  generalize count m = w
  generalize BitVec.ofNat 32 (i 0).val = a
  show IntOp.cmpi .ne (BitVec.setWidth 32 (IntOp.cmpi .slt a w)) 0#32 = 1#1 ↔ _
  rw [WordCmp.cmpi_slt_eq]
  by_cases h : a.toInt < w.toInt
  · simp only [h]; decide
  · simp only [h]; decide

end Cert.ExpertsIdeal.Run

end
-- ==== Proof.Experts.Array.lean ====
/-
  The result array of the experts' kernel at one row and lane: every point's block is written back once, to its own rows.
-/
module

public import proofs.«01_k».proof.Proof.Experts.Point
public import proofs.«01_k».proof.Proof.Experts.Frame
public import proofs.«01_k».proof.Proof.Experts.Chosen

@[expose] public section

set_option maxRecDepth 16384

noncomputable section

namespace Cert.ExpertsIdeal.Run

open Idealize.ShloMosaic Idealize.ShloMosaic.TcCoe Idealize.SL Idealize.SL.Sem
open Cert.ExpertsIdeal Cert.ExpertsIdeal.Gen Cert.Proof.Experts

variable (m : (ℓ : Loc nD τ sig) → Buf (Elt Ideal) ℓ) (hO : Ok m)

theorem index5 (t : Fin (pipe m hO).N) : ((pipe m hO).win 5).index t = ![t.val, 0] :=
  (by decide +kernel : ∀ t : Fin grid0.N, cc0_transform_5 (grid0.coords t) = ![t.val, 0]) t

theorem index2 (t : Fin (pipe m hO).N) : ((pipe m hO).win 2).index t = ![(expert m (grid0.coords t 0)).toNat, 0, 0] :=
  congrArg (fun w : BitVec 32 => ![w.toNat, 0, 0]) (expert_at m (grid0.coords t))

theorem index4 (t : Fin (pipe m hO).N) : ((pipe m hO).win 4).index t = ![(expert m (grid0.coords t 0)).toNat, 0, 0] :=
  congrArg (fun w : BitVec 32 => ![w.toNat, 0, 0]) (expert_at m (grid0.coords t))

theorem block2 (c : Dev nD) (t : Fin (pipe m hO).N) (b : Fin 2048) :
    iblk m hO c 2 t (ix3 0 0 b) = V m c main_arg4 (ix3 (⟨(expert m (grid0.coords t 0)).toNat, expert_lt m hO t⟩ : Fin 32) 0 b) := by
  blk_simp [iblk, index2 m hO t]
  blk_ext [index2 m hO t]

theorem block4 (c : Dev nD) (t : Fin (pipe m hO).N) (b : Fin 1024) :
    iblk m hO c 4 t (ix3 0 0 b) = V m c main_arg6 (ix3 (⟨(expert m (grid0.coords t 0)).toNat, expert_lt m hO t⟩ : Fin 32) 0 b) := by
  blk_simp [iblk, index4 m hO t]
  blk_ext [index4 m hO t]

/-- A used point reads its own block of rows. -/
theorem index0 (hn : 1 ≤ (count m).toInt) (t : Fin (pipe m hO).N) (hu : (t.val : Int) < (count m).toInt) : ((pipe m hO).win 0).index t = ![t.val, 0] := by
  refine (rows_block m hn (grid0.coords t)).trans ?_
  rw [coord t, show (min (t.val : Int) ((count m).toInt - 1)).toNat = t.val from by omega]

theorem block0 (hn : 1 ≤ (count m).toInt) (c : Dev nD) (t : Fin (pipe m hO).N) (hu : (t.val : Int) < (count m).toInt) (a : Fin 4096) (l : Fin 128) :
    iblk m hO c 0 t (ix2 a l) = V m c main_arg0 (ix2 (⟨t.val * 4096 + a.val, by have := point_lt t; omega⟩ : Fin 1179648) l) := by
  blk_simp [iblk, index0 m hO hn t hu]
  blk_ext [index0 m hO hn t hu]

/-- The block a point leaves, at an index. -/
theorem out_at (hb : ∀ k : Fin 288, (expert m k).toNat < 32) (hn : 1 ≤ (count m).toInt) (c : Dev nD) (t : Fin (pipe m hO).N) (R : Fin 1179648) (l : Fin 128)
    (ht : t.val = R.val / 4096) :
    outAt m hO c t (ix2 (⟨R.val % 4096, by omega⟩ : Fin 4096) l)
      = answer (fun r l => V m c main_arg0 (ix2 r l)) (fun k => ⟨(expert m k).toNat, hb k⟩) (count m).toInt (fun e k f => V m c main_arg3 (ix3 e k f))
          (fun e f => V m c main_arg4 (ix3 e 0 f)) (fun e k d => V m c main_arg5 (ix3 e k d)) (fun e d => V m c main_arg6 (ix3 e 0 d)) R l := by
  have hc : grid0.coords t 0 = (⟨R.val / 4096, by omega⟩ : Fin 288) := Fin.ext ((coord t).trans ht)
  unfold answer
  by_cases hu : ((R.val / 4096 : ℕ) : Int) < (count m).toInt
  · have hu' : (t.val : Int) < (count m).toInt := by rw [ht]; exact hu
    rw [if_pos hu, outAt_used m hO c t ((used_iff m c (grid0.coords t)).2 (by rw [coord t]; exact hu'))]
    refine (usedBlock_at _ _ _ _ _ _ _).trans ?_
    have e0 : rowOf (iblk m hO c 0 t) ⟨R.val % 4096 / 8, by omega⟩
        = fun k => V m c main_arg0 (ix2 (⟨R.val / 8 * 8 + k.val / 128, by omega⟩ : Fin 1179648) (⟨k.val % 128, Nat.mod_lt _ (by decide)⟩ : Fin 128)) := by
      funext k
      refine (block0 m hO hn c t hu' _ _).trans (congrArg (fun r : Fin 1179648 => V m c main_arg0 (ix2 r _)) (Fin.ext ?_))
      show t.val * 4096 + (R.val % 4096 / 8 * 8 + k.val / 128) = R.val / 8 * 8 + k.val / 128
      omega
    have he : (⟨(expert m (grid0.coords t 0)).toNat, expert_lt m hO t⟩ : Fin 32) = ⟨(expert m ⟨R.val / 4096, by omega⟩).toNat, hb _⟩ :=
      Fin.ext (congrArg (fun k => (expert m k).toNat) hc)
    have e1 : (fun k f => upAt m hO c t (ix2 k f)) = fun (k : Fin 1024) (f : Fin 2048) => V m c main_arg3 (ix3 (⟨(expert m ⟨R.val / 4096, by omega⟩).toNat, hb _⟩ : Fin 32) k f) := by
      funext k f
      rw [← he]
      exact (up_at _ k f).trans (block1 m hO c t k f)
    have e3 : (fun k d => downAt m hO c t (ix2 k d)) = fun (k : Fin 1024) (d : Fin 1024) => V m c main_arg5 (ix3 (⟨(expert m ⟨R.val / 4096, by omega⟩).toNat, hb _⟩ : Fin 32) k d) := by
      funext k d
      rw [← he]
      exact (down_at _ k d).trans (block3 m hO c t k d)
    have e2 : (fun f => iblk m hO c 2 t (ix3 0 0 f)) = fun (f : Fin 2048) => V m c main_arg4 (ix3 (⟨(expert m ⟨R.val / 4096, by omega⟩).toNat, hb _⟩ : Fin 32) 0 f) := by
      funext f
      rw [← he]
      exact block2 m hO c t f
    have e4 : (fun d => iblk m hO c 4 t (ix3 0 0 d)) = fun (d : Fin 1024) => V m c main_arg6 (ix3 (⟨(expert m ⟨R.val / 4096, by omega⟩).toNat, hb _⟩ : Fin 32) 0 d) := by
      funext d
      rw [← he]
      exact block4 m hO c t d
    have ed : (⟨R.val % 4096 % 8 * 128 + l.val, by omega⟩ : Fin 1024) = ⟨R.val % 8 * 128 + l.val, by omega⟩ := Fin.ext (by show R.val % 4096 % 8 * 128 + l.val = R.val % 8 * 128 + l.val; omega)
    have cong : ∀ {x x' : Fin 1024 → EReal} {W W' b b' D D' g g'} {d d' : Fin 1024}, x = x' → W = W' → b = b' → D = D' → g = g' → d = d' →
        feed x W b D g d = feed x' W' b' D' g' d' := by
      intro x x' W W' b b' D D' g g' d d' hx hW hb hD hg hd
      subst hx hW hb hD hg hd
      rfl
    exact cong e0 e1 e2 e3 e4 ed
  · have hu' : ¬(t.val : Int) < (count m).toInt := by rw [ht]; exact hu
    rw [if_neg hu, outAt_past m hO c t (fun h => hu' (by have := (used_iff m c (grid0.coords t)).1 h; rwa [coord t] at this))]
    exact zero_at _ _

/-- Distinct points write distinct blocks. -/
theorem disjoint5 : ∀ t t' : Fin (pipe m hO).N, ((pipe m hO).win 5).flush t = true → ((pipe m hO).win 5).flush t' = true → t ≠ t' →
    Disjoint (((pipe m hO).win 5).blk t).view.set (((pipe m hO).win 5).blk t').view.set := fun t t' _ _ hne =>
  ((pipe m hO).win 5).disjoint_blk fun h => hne (Fin.ext (by
    have e := (index5 m hO t).symm.trans (h.trans (index5 m hO t'))
    exact congrFun e 0))

/-- The result array at row `R`, lane `l`. -/
theorem result_at (hb : ∀ k : Fin 288, (expert m k).toNat < 32) (hn : 1 ≤ (count m).toInt) (c : Dev nD) (R : Fin 1179648) (l : Fin 128) :
    (dats m hO 0 c).arrAt 5 (pipe m hO).N (ix2 R l)
      = answer (fun r l => V m c main_arg0 (ix2 r l)) (fun k => ⟨(expert m k).toNat, hb k⟩) (count m).toInt (fun e k f => V m c main_arg3 (ix3 e k f))
          (fun e f => V m c main_arg4 (ix3 e 0 f)) (fun e k d => V m c main_arg5 (ix3 e k d)) (fun e d => V m c main_arg6 (ix3 e 0 d)) R l := by
  have hN : (pipe m hO).N = 288 := (by decide +kernel : grid0.N = 288)
  let t : Fin (pipe m hO).N := ⟨R.val / 4096, by omega⟩
  have hfl := congrFun ((dats m hO 0 c).read_blk_arrAt_eq_flushed 5 (disjoint5 m hO) (pipe m hO).N t t.isLt (flush5 (adm m hO) t)) (ix2 (⟨R.val % 4096, by omega⟩ : Fin 4096) l)
  have he : (((pipe m hO).win 5).blk t).view.emb (ix2 (⟨R.val % 4096, by omega⟩ : Fin 4096) l) = (ix2 R l : S1179648x128.Idx) := by
    blk_ext [index5 m hO t]
    show R.val / 4096 * 4096 + R.val % 4096 = R.val
    omega
  generalize (dats m hO 0 c).arrAt 5 (pipe m hO).N = G at hfl ⊢
  refine (congrArg G he).symm.trans (hfl.trans ?_)
  refine Eq.trans ?_ (out_at m hO hb hn c t R l rfl)
  rw [← after5 m hO c t]
  rfl

end Cert.ExpertsIdeal.Run

end
-- ==== Proof.Experts.Gathered.lean ====
/-
  The slabs a gather takes from the experts' parameters: slab `t` of the result is the slab of the operand that word `t` names.
-/
module

public import Idealize.ShloMosaic.Lib.Pointwise
public import Idealize.ShloMosaic.Lib.ValueIdxCore

@[expose] public section

noncomputable section

open Idealize.ShloMosaic

namespace Cert.Proof.Experts

variable {α : Type}

/-- The dimension numbers of taking whole slabs `[A, B]` of an operand `[N, A, B]` at a column of `C` words. -/
abbrev slabDims (N A B C : ℕ) (wf : GatherDims.WF ⟨3, ![N, A, B]⟩ ⟨2, ![C, 1]⟩ ⟨3, ![C, A, B]⟩ [1, 2] [0] [] [0] [] 1 ![1, A, B]) :
    GatherDims ⟨3, ![N, A, B]⟩ ⟨2, ![C, 1]⟩ ⟨3, ![C, A, B]⟩ where
  offsetDims := [1, 2]
  collapsedSliceDims := [0]
  operandBatchingDims := []
  startIndicesBatchingDims := []
  startIndexMap := [0]
  indexVectorDim := 1
  sliceSizes := ![1, A, B]
  wf := wf

/-- Slab `t` of the result is the operand's slab at word `t`, if the word names one. -/
theorem slab_at {N A B C w : ℕ} (wf) (x : (⟨3, ![N, A, B]⟩ : Shape).Idx → α) (idx : IVec ⟨2, ![C, 1]⟩ w) (t : Fin C) (a : Fin A) (b : Fin B)
    (n : Fin N) (hn : (idx (ix2 t 0)).toInt.toNat = n.val) :
    Host.gather (slabDims N A B C wf) x idx (ix3 t a b) = x (ix3 n a b) := by
  unfold Host.gather
  refine congrArg x (funext fun ax => Fin.ext ?_)
  show (slabDims N A B C wf).start (ix3 t a b) idx ax + (slabDims N A B C wf).batchCoord (ix3 t a b) ax + (slabDims N A B C wf).offCoord (ix3 t a b) ax = _
  rw [GatherDims.batchCoord_eq_zero _ _ _ List.not_mem_nil]
  have h3 : ax = (0 : Fin 3) ∨ ax = (1 : Fin 3) ∨ ax = (2 : Fin 3) := by
    match ax with
    | ⟨0, _⟩ => exact .inl rfl
    | ⟨1, _⟩ => exact .inr (.inl rfl)
    | ⟨2, _⟩ => exact .inr (.inr rfl)
  rcases h3 with rfl | rfl | rfl
  · rw [GatherDims.offCoord_eq_zero _ _ _ fun h => ((GatherDims.mem_sKept _ _).mp h).1 (List.mem_singleton.mpr rfl)]
    unfold GatherDims.start
    rw [dif_pos (show (0 : Fin 3) ∈ (slabDims N A B C wf).startIndexMap from List.mem_singleton.mpr rfl)]
    have e : (slabDims N A B C wf).siIdx (ix3 t a b) ⟨List.idxOf (0 : Fin 3) (slabDims N A B C wf).startIndexMap,
        List.idxOf_lt_length_iff.2 (List.mem_singleton.mpr rfl)⟩ = ix2 t 0 := by
      funext i; refine Fin.ext ?_
      match i with
      | ⟨0, _⟩ => rfl
      | ⟨1, _⟩ => rfl
    rw [e, hn]
    show min n.val (N - 1) + 0 + 0 = n.val
    have := n.isLt
    omega
  · unfold GatherDims.start
    rw [dif_neg (show (1 : Fin 3) ∉ (slabDims N A B C wf).startIndexMap from (by decide : (1 : Fin 3) ∉ [(0 : Fin 3)]))]
    show 0 + 0 + a.val = a.val
    omega
  · unfold GatherDims.start
    rw [dif_neg (show (2 : Fin 3) ∉ (slabDims N A B C wf).startIndexMap from (by decide : (2 : Fin 3) ∉ [(0 : Fin 3)]))]
    show 0 + 0 + b.val = b.val
    omega

end Cert.Proof.Experts
-- ==== Proof.Experts.RefOut.lean ====
/-
  The experts' reference at one row and lane, in stages: the first product, the gated unit, the second product, and the rows past the
  used blocks.
-/
module

public import proofs.«01_k».proof.Proof.Gen.ExpertsReferenceIdeal.Run
public import proofs.«01_k».proof.Proof.Experts.Model
public import proofs.«01_k».proof.Proof.Experts.Gathered
public import Idealize.ShloMosaic.Lib.WordCmp

@[expose] public section

set_option maxRecDepth 16384

noncomputable section

namespace Cert.ExpertsReferenceIdeal.Value

open Idealize.ShloMosaic Idealize.ShloMosaic.TcCoe
open Cert.ExpertsReferenceIdeal Cert.ExpertsReferenceIdeal.Gen Cert.Proof.Experts

/-- The first product over all blocks' rows. -/
def first (x : FVec Ideal S1179648x128 .f32) (W : FVec Ideal S288x1024x2048 .f32) (b : FVec Ideal S288x1x2048 .f32) : FVec Ideal S288x512x2048 .f32 :=
  addf (Host.dotGeneral dot_S288x512x1024_S288x1024x2048_S288x512x2048_2_1_1_2_0_0 none (shapeCast _ x shapeCasts_S1179648x128_S288x512x1024) W)
    (broadcastInDim S288x512x2048 ![0, 1, 2] bcast_S288x1x2048_S288x512x2048_0_1_2 b)

/-- The clipped gate. -/
def gate (y : FVec Ideal S288x512x2048 .f32) : FVec Ideal S288x512x1024 .f32 :=
  minimumf (extractStridedSlice S288x512x1024 ![0, 0, 0] y slices_S288x512x2048_S288x512x1024_0_0_0)
    (broadcastInDim S288x512x1024 ![] bcast_S_S288x512x1024 (constant S_ .f32 0x40E00000#32))

/-- The gated unit. -/
def units (y : FVec Ideal S288x512x2048 .f32) : FVec Ideal S288x512x1024 .f32 :=
  mulf (addf (minimumf (broadcastInDim S288x512x1024 ![] bcast_S_S288x512x1024 (id (constant S_ .f32 0x40E00000#32)))
      (maximumf (broadcastInDim S288x512x1024 ![] bcast_S_S288x512x1024 (id (constant S_ .f32 0xC0E00000#32)))
        (extractStridedSlice S288x512x1024 ![0, 0, 1024] y slices_S288x512x2048_S288x512x1024_0_0_1024)))
      (broadcastInDim S288x512x1024 ![] bcast_S_S288x512x1024 (constant S_ .f32 0x3F800000#32)))
    (mulf (gate y) (Host.divf (broadcastInDim S288x512x1024 ![] bcast_S_S288x512x1024 (constant S_ .f32 0x3F800000#32))
      (addf (broadcastInDim S288x512x1024 ![] bcast_S_S288x512x1024 (constant S_ .f32 0x3F800000#32))
        (Host.exp (Host.negf (mulf (gate y) (broadcastInDim S288x512x1024 ![] bcast_S_S288x512x1024 (constant S_ .f32 0x3FD9DB23#32))))))))

/-- The second product. -/
def second (z : FVec Ideal S288x512x1024 .f32) (D : FVec Ideal S288x1024x1024 .f32) (g : FVec Ideal S288x1x1024 .f32) : FVec Ideal S288x512x1024 .f32 :=
  addf (Host.dotGeneral dot_S288x512x1024_S288x1024x1024_S288x512x1024_2_1_1_2_0_0 none z D)
    (broadcastInDim S288x512x1024 ![0, 1, 2] bcast_S288x1x1024_S288x512x1024_0_1_2 g)

/-- Zeros past the used blocks. -/
def masked (n : IVec S1 32) (y : FVec Ideal S288x512x1024 .f32) : FVec Ideal S288x512x1024 .f32 :=
  select (broadcastInDim S288x512x1024 ![0, 1, 2] bcast_S288x1x1_S288x512x1024_0_1_2 (broadcastInDim S288x1x1 ![0] bcast_S288_S288x1x1_0
      (cmpi .slt (iotaInDim S288 32 0) (broadcastInDim S288 ![] bcast_S_S288 (shapeCast _ n shapeCasts_S1_S_)))))
    y (broadcastInDim S288x512x1024 ![] bcast_S_S288x512x1024 (id (constant S_ .f32 0x00000000#32)))

theorem first_at (x : FVec Ideal S1179648x128 .f32) (W : FVec Ideal S288x1024x2048 .f32) (b : FVec Ideal S288x1x2048 .f32) (t : Fin 288) (r : Fin 512) (f : Fin 2048) :
    first x W b (ix3 t r f)
      = linear (fun k => x (ix2 (⟨t.val * 4096 + r.val * 8 + k.val / 128, by omega⟩ : Fin 1179648) (⟨k.val % 128, Nat.mod_lt _ (by decide)⟩ : Fin 128)))
          (fun k => W (ix3 t k f)) (b (ix3 t 0 f)) := by
  unfold first
  pointwise [linear]

theorem units_at (y : FVec Ideal S288x512x2048 .f32) (t : Fin 288) (r : Fin 512) (f : Fin 1024) :
    units y (ix3 t r f) = gatedUnit (y (ix3 t r (⟨f.val, by omega⟩ : Fin 2048))) (y (ix3 t r (⟨1024 + f.val, by omega⟩ : Fin 2048))) := by
  unfold units gate
  pointwise [gatedUnit, clipGate, clipUp, Ideal.logistic, id]

theorem second_at (z : FVec Ideal S288x512x1024 .f32) (D : FVec Ideal S288x1024x1024 .f32) (g : FVec Ideal S288x1x1024 .f32) (t : Fin 288) (r : Fin 512) (d : Fin 1024) :
    second z D g (ix3 t r d) = linear (fun k => z (ix3 t r k)) (fun k => D (ix3 t k d)) (g (ix3 t 0 d)) := by
  unfold second
  pointwise [linear]

theorem masked_at (n : IVec S1 32) (y : FVec Ideal S288x512x1024 .f32) (t : Fin 288) (r : Fin 512) (d : Fin 1024) :
    masked n y (ix3 t r d) = if (t.val : Int) < (n (ix1 0)).toInt then y (ix3 t r d) else 0 := by
  have e : (BitVec.ofNat 32 t.val).toInt = (t.val : Int) := WordCmp.toInt_ofNat_of_lt (by omega)
  unfold masked
  rw [← e]
  pointwise [id]
  rw [WordCmp.cmpi_slt_eq]
  by_cases h : (BitVec.ofNat 32 t.val).toInt < (n (ix1 0)).toInt
  · rw [if_pos h, decide_eq_true h]; rfl
  · rw [if_neg h, decide_eq_false h]; rfl

/-- The strips of the rows: the last reshape. -/
theorem strips_at (y : FVec Ideal S288x512x1024 .f32) (R : Fin 1179648) (l : Fin 128) :
    shapeCast S1179648x128 y shapeCasts_S288x512x1024_S1179648x128 (ix2 R l)
      = y (ix3 (⟨R.val / 4096, by omega⟩ : Fin 288) (⟨R.val / 8 % 512, by omega⟩ : Fin 512) (⟨R.val % 8 * 128 + l.val, by omega⟩ : Fin 1024)) := by
  pointwise

variable (m : (ℓ : Loc nD τ sig) → Buf (Elt Ideal) ℓ) (c : Dev nD)

/-- The table of experts, as the reference's gathers take it. -/
abbrev words : IVec S288x1 32 := broadcastInDim S288x1 ![0] bcast_S288_S288x1_0 (m ((c.tc : Thread nD τ).loc main_arg1))

/-- The four parameters, one slab to a block. -/
abbrev slabsW : FVec Ideal S288x1024x2048 .f32 := Host.gather gather_S32x1024x2048_S288x1_S288x1024x2048_12_0_n_n_0_1_110242048 (m ((c.tc : Thread nD τ).loc main_arg3)) (words m c)
abbrev slabsB : FVec Ideal S288x1x2048 .f32 := Host.gather gather_S32x1x2048_S288x1_S288x1x2048_12_0_n_n_0_1_112048 (m ((c.tc : Thread nD τ).loc main_arg4)) (words m c)
abbrev slabsD : FVec Ideal S288x1024x1024 .f32 := Host.gather gather_S32x1024x1024_S288x1_S288x1024x1024_12_0_n_n_0_1_110241024 (m ((c.tc : Thread nD τ).loc main_arg5)) (words m c)
abbrev slabsG : FVec Ideal S288x1x1024 .f32 := Host.gather gather_S32x1x1024_S288x1_S288x1x1024_12_0_n_n_0_1_111024 (m ((c.tc : Thread nD τ).loc main_arg6)) (words m c)

/-- The result, in its stages. -/
theorem staged : res_main_v38 m c = shapeCast S1179648x128 (masked (m ((c.tc : Thread nD τ).loc main_arg2))
    (second (units (first (m ((c.tc : Thread nD τ).loc main_arg0)) (slabsW m c) (slabsB m c))) (slabsD m c) (slabsG m c))) shapeCasts_S288x512x1024_S1179648x128 := by
  unfold res_main_v38 masked second units gate first
  rfl

theorem words_at (t : Fin 288) : words m c (ix2 t 0) = m ((c.tc : Thread nD τ).loc main_arg1) (ix1 t) := by
  unfold words
  pointwise

/-- The result at row `R`, lane `l`, if every word of the table names one of the 32 experts. -/
theorem result_at (hb : ∀ k : Fin 288, ((m ((c.tc : Thread nD τ).loc main_arg1) (ix1 k) : BitVec 32)).toNat < 32) (R : Fin 1179648) (l : Fin 128) :
    res_main_v38 m c (ix2 R l)
      = answer (fun r l => m ((c.tc : Thread nD τ).loc main_arg0) (ix2 r l)) (fun k => ⟨((m ((c.tc : Thread nD τ).loc main_arg1) (ix1 k) : BitVec 32)).toNat, hb k⟩)
          ((m ((c.tc : Thread nD τ).loc main_arg2) (ix1 0) : BitVec 32)).toInt (fun e k f => m ((c.tc : Thread nD τ).loc main_arg3) (ix3 e k f))
          (fun e f => m ((c.tc : Thread nD τ).loc main_arg4) (ix3 e 0 f)) (fun e k d => m ((c.tc : Thread nD τ).loc main_arg5) (ix3 e k d))
          (fun e d => m ((c.tc : Thread nD τ).loc main_arg6) (ix3 e 0 d)) R l := by
  have hw : ∀ t : Fin 288, (words m c (ix2 t 0)).toInt.toNat = ((m ((c.tc : Thread nD τ).loc main_arg1) (ix1 t) : BitVec 32)).toNat := by
    intro t
    rw [words_at]
    have := hb t
    rw [BitVec.toInt_eq_toNat_of_lt (by omega)]
    rfl
  have eW : ∀ (t : Fin 288) (k : Fin 1024) (f : Fin 2048), slabsW m c (ix3 t k f) = m ((c.tc : Thread nD τ).loc main_arg3) (ix3 (⟨_, hb t⟩ : Fin 32) k f) :=
    fun t k f => slab_at gather_S32x1024x2048_S288x1_S288x1024x2048_12_0_n_n_0_1_110242048_wf _ (words m c) t k f ⟨_, hb t⟩ (hw t)
  have eB : ∀ (t : Fin 288) (f : Fin 2048), slabsB m c (ix3 t 0 f) = m ((c.tc : Thread nD τ).loc main_arg4) (ix3 (⟨_, hb t⟩ : Fin 32) 0 f) :=
    fun t f => slab_at gather_S32x1x2048_S288x1_S288x1x2048_12_0_n_n_0_1_112048_wf _ (words m c) t 0 f ⟨_, hb t⟩ (hw t)
  have eD : ∀ (t : Fin 288) (k : Fin 1024) (d : Fin 1024), slabsD m c (ix3 t k d) = m ((c.tc : Thread nD τ).loc main_arg5) (ix3 (⟨_, hb t⟩ : Fin 32) k d) :=
    fun t k d => slab_at gather_S32x1024x1024_S288x1_S288x1024x1024_12_0_n_n_0_1_110241024_wf _ (words m c) t k d ⟨_, hb t⟩ (hw t)
  have eG : ∀ (t : Fin 288) (d : Fin 1024), slabsG m c (ix3 t 0 d) = m ((c.tc : Thread nD τ).loc main_arg6) (ix3 (⟨_, hb t⟩ : Fin 32) 0 d) :=
    fun t d => slab_at gather_S32x1x1024_S288x1_S288x1x1024_12_0_n_n_0_1_111024_wf _ (words m c) t 0 d ⟨_, hb t⟩ (hw t)
  rw [staged, strips_at, masked_at]
  unfold answer
  refine if_congr Iff.rfl ?_ rfl
  rw [second_at]
  unfold feed middle
  simp only [units_at, first_at, eW, eB, eD, eG]
  have er : ∀ k : Fin 1024, (⟨R.val / 4096 * 4096 + R.val / 8 % 512 * 8 + k.val / 128, by omega⟩ : Fin 1179648) = ⟨R.val / 8 * 8 + k.val / 128, by omega⟩ :=
    fun k => Fin.ext (by show R.val / 4096 * 4096 + R.val / 8 % 512 * 8 + k.val / 128 = R.val / 8 * 8 + k.val / 128; omega)
  simp only [er]

end Cert.ExpertsReferenceIdeal.Value

end
-- ==== Proof.Experts.Tie.lean ====
/-
  The experts' kernel and reference leave the same array.
-/
module

public import proofs.«01_k».proof.Proof.Experts.Array
public import proofs.«01_k».proof.Proof.Experts.RefOut

@[expose] public section

set_option maxRecDepth 16384

noncomputable section

namespace Cert.ExpertsIdeal.Run

open Idealize.ShloMosaic Idealize.ShloMosaic.TcCoe Idealize.SL Idealize.SL.Sem
open Cert.ExpertsIdeal Cert.ExpertsIdeal.Gen Cert.Proof.Experts

variable (m : (ℓ : Loc nD τ sig) → Buf (Elt Ideal) ℓ) (ρ : Dev nD → PrngReg) (hO : Ok m)

/-- The kernel's run with its result. -/
theorem run_result : θ_run defs (onTc (τ := τ) (main (F := Ideal))) ⟨m, fun _ => 0, ρ⟩ (fun r => ∀ c : Dev nD,
      r.2.mem ((c.tc : Thread nD τ).loc main_v0) = (dats m hO 0 c).arrAt 5 (pipe m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1 5, h.2 c⟩) (θ_run_and (run_main m ρ hO) (unchanged m ρ hO))

/-- From memories that agree on the arguments, the reference's result is the kernel's array. -/
theorem tie (hb : ∀ k : Fin 288, (expert m k).toNat < 32) (hn : 1 ≤ (count m).toInt) (c : Dev nD)
    (m' : (ℓ : Loc Cert.ExpertsReferenceIdeal.nD Cert.ExpertsReferenceIdeal.τ Cert.ExpertsReferenceIdeal.sig) → Buf (Elt Ideal) ℓ)
    (h0 : m' ((c.tc : Thread Cert.ExpertsReferenceIdeal.nD Cert.ExpertsReferenceIdeal.τ).loc Cert.ExpertsReferenceIdeal.main_arg0) = m ((c.tc : Thread nD τ).loc main_arg0))
    (h1 : m' ((c.tc : Thread Cert.ExpertsReferenceIdeal.nD Cert.ExpertsReferenceIdeal.τ).loc Cert.ExpertsReferenceIdeal.main_arg1) = m ((c.tc : Thread nD τ).loc main_arg1))
    (h2 : m' ((c.tc : Thread Cert.ExpertsReferenceIdeal.nD Cert.ExpertsReferenceIdeal.τ).loc Cert.ExpertsReferenceIdeal.main_arg2) = m ((c.tc : Thread nD τ).loc main_arg2))
    (h3 : m' ((c.tc : Thread Cert.ExpertsReferenceIdeal.nD Cert.ExpertsReferenceIdeal.τ).loc Cert.ExpertsReferenceIdeal.main_arg3) = m ((c.tc : Thread nD τ).loc main_arg3))
    (h4 : m' ((c.tc : Thread Cert.ExpertsReferenceIdeal.nD Cert.ExpertsReferenceIdeal.τ).loc Cert.ExpertsReferenceIdeal.main_arg4) = m ((c.tc : Thread nD τ).loc main_arg4))
    (h5 : m' ((c.tc : Thread Cert.ExpertsReferenceIdeal.nD Cert.ExpertsReferenceIdeal.τ).loc Cert.ExpertsReferenceIdeal.main_arg5) = m ((c.tc : Thread nD τ).loc main_arg5))
    (h6 : m' ((c.tc : Thread Cert.ExpertsReferenceIdeal.nD Cert.ExpertsReferenceIdeal.τ).loc Cert.ExpertsReferenceIdeal.main_arg6) = m ((c.tc : Thread nD τ).loc main_arg6)) :
    Cert.ExpertsReferenceIdeal.Value.res_main_v38 m' c = (dats m hO 0 c).arrAt 5 (pipe m hO).N := by
  obtain rfl : c = 0 := Subsingleton.elim _ _
  funext y
  revert y
  intro (y : S1179648x128.Idx)
  obtain ⟨R, l, rfl⟩ : ∃ (R : Fin 1179648) (l : Fin 128), y = ix2 R l := ⟨y 0, y 1, by idx_vars y⟩
  have hb' : ∀ k : Fin 288, ((m' (((0 : Dev nD).tc : Thread Cert.ExpertsReferenceIdeal.nD Cert.ExpertsReferenceIdeal.τ).loc Cert.ExpertsReferenceIdeal.main_arg1) (ix1 k) : BitVec 32)).toNat < 32 := by
    rw [h1]; exact hb
  refine (Cert.ExpertsReferenceIdeal.Value.result_at m' 0 hb' R l).trans (Eq.trans ?_ (result_at m hO hb hn 0 R l).symm)
  simp only [h0, h1, h2, h3, h4, h5, h6]
  rfl

end Cert.ExpertsIdeal.Run

end
-- ==== Proof.Projection.Model.lean ====
/-
  The input projection as formulas on extended reals: a scaled and shifted token times a column of the weights, and the columns'
  order in the kernel's result.
-/
module

public import Idealize.ShloMosaic.Lib.Pointwise

@[expose] public section

noncomputable section

open Idealize.ShloMosaic

namespace Cert.Proof.Projection

/-- A token's number scaled by one plus the scale, and shifted. -/
def modulated (x sc sh : EReal) : EReal := x * (1 + sc) + sh

/-- The columns in the order of the kernel's result: those of the retention, which come last among the weights, first; then those
    before them; then 60 zeros. -/
def pack (y : Fin 3140 → EReal) (d : Fin 3200) : EReal :=
  if h : d.val < 2048 then y ⟨d.val + 1092, by omega⟩ else if h' : d.val < 3140 then y ⟨d.val - 2048, by omega⟩ else 0

theorem pack_head (y : Fin 3140 → EReal) (d : Fin 3200) (h : d.val < 2048) : pack y d = y ⟨d.val + 1092, by omega⟩ := dif_pos h

theorem pack_tail (y : Fin 3140 → EReal) (d : Fin 3200) (h : ¬d.val < 2048) (h' : d.val < 3140) : pack y d = y ⟨d.val - 2048, by omega⟩ :=
  (dif_neg h).trans (dif_pos h')

theorem pack_zero (y : Fin 3140 → EReal) (d : Fin 3200) (h' : ¬d.val < 3140) : pack y d = 0 :=
  (dif_neg (by omega)).trans (dif_neg h')

/-- The result at row `R` (the sequences laid end to end), column `d`. -/
def packed (x : Fin 8 → Fin 4096 → Fin 1024 → EReal) (sc sh : Fin 8 → Fin 1024 → EReal) (w : Fin 1024 → Fin 3140 → EReal)
    (R : Fin 32768) (d : Fin 3200) : EReal :=
  pack (fun d => ∑ k : Fin 1024,
    modulated (x ⟨R.val / 4096, by omega⟩ ⟨R.val % 4096, by omega⟩ k) (sc ⟨R.val / 4096, by omega⟩ k) (sh ⟨R.val / 4096, by omega⟩ k) * w k d) d

/-- Weights packed first and multiplied after: the products packed. -/
theorem sum_pack (a : Fin 1024 → EReal) (w : Fin 1024 → Fin 3140 → EReal) (d : Fin 3200) :
    ∑ k : Fin 1024, a k * pack (w k) d = pack (fun d => ∑ k : Fin 1024, a k * w k d) d := by
  unfold pack
  split
  · rfl
  · split
    · rfl
    · simp only [mul_zero, Finset.sum_const_zero]

end Cert.Proof.Projection

end
-- ==== Proof.Projection.Host.lean ====
/-
  The projection's host arrays at an index: the tokens laid end to end, and the weights with their columns packed.
-/
module

public import proofs.«01_k».proof.Proof.Gen.ProjectionIdeal.Value
public import proofs.«01_k».proof.Proof.Projection.Model
public import Idealize.ShloMosaic.Lib.StableHlo.ReadAt
public import Idealize.ShloMosaic.Lib.StableHlo.RunRead
public import Idealize.ShloMosaic.Lib.Pipeline.ValueKit

@[expose] public section

set_option maxRecDepth 16384

noncomputable section

namespace Cert.ProjectionIdeal.Value

open Idealize.ShloMosaic Idealize.ShloMosaic.TcCoe Idealize.SL
open Cert.ProjectionIdeal Cert.ProjectionIdeal.Gen Cert.Proof.Projection

variable (m : (ℓ : Loc nD τ sig) → Buf (Elt Ideal) ℓ)

/-- The tokens, the sequences laid end to end. -/
theorem tokens_at (c : Dev nD) (R : Fin 32768) (k : Fin 1024) :
    V m c main_v0 (ix2 R k) = m ((c.tc).loc main_arg0) (ix3 (⟨R.val / 4096, by omega⟩ : Fin 8) (⟨R.val % 4096, by omega⟩ : Fin 4096) k) := by
  unfold V
  after_reads_at

/-- The weights' columns in the order of the kernel's result. -/
def reordered (w : FVec Ideal S1024x3140 .f32) : FVec Ideal S1024x3200 .f32 :=
  concatenate S1024x3200 1 [
    ⟨S1024x512, extractStridedSlice S1024x512 ![0, 1092] w slices_S1024x3140_S1024x512_0_1092⟩,
    ⟨S1024x512, extractStridedSlice S1024x512 ![0, 1604] w slices_S1024x3140_S1024x512_0_1604⟩,
    ⟨S1024x512, extractStridedSlice S1024x512 ![0, 2116] w slices_S1024x3140_S1024x512_0_2116⟩,
    ⟨S1024x512, extractStridedSlice S1024x512 ![0, 2628] w slices_S1024x3140_S1024x512_0_2628⟩,
    ⟨S1024x512, extractStridedSlice S1024x512 ![0, 0] w slices_S1024x3140_S1024x512_0_0⟩,
    ⟨S1024x128, extractStridedSlice S1024x128 ![0, 512] w slices_S1024x3140_S1024x128_0_512⟩,
    ⟨S1024x128, extractStridedSlice S1024x128 ![0, 640] w slices_S1024x3140_S1024x128_0_640⟩,
    ⟨S1024x256, extractStridedSlice S1024x256 ![0, 768] w slices_S1024x3140_S1024x256_0_768⟩,
    ⟨S1024x64, extractStridedSlice S1024x64 ![0, 1024] w slices_S1024x3140_S1024x64_0_1024⟩,
    ⟨S1024x4, extractStridedSlice S1024x4 ![0, 1088] w slices_S1024x3140_S1024x4_0_1088⟩,
    ⟨S1024x60, broadcastInDim S1024x60 ![] bcast_S_S1024x60 (constant S_ .f32 0x00000000#32 : FVec Ideal S_ .f32)⟩]
    concatenates_S1024x512_S1024x512_S1024x512_S1024x512_S1024x512_S1024x128_S1024x128_S1024x256_S1024x64_S1024x4_S1024x60_S1024x3200_d1

theorem reordered_at (w : FVec Ideal S1024x3140 .f32) (k : Fin 1024) (d : Fin 3200) : reordered w (ix2 k d) = pack (fun d => w (ix2 k d)) d := by
  unfold reordered
  pointwise
  by_cases h0 : d.val < 512
  · rw [dif_pos h0, pack_head _ _ (by omega)]
    exact congrArg (fun d : Fin 3140 => w (ix2 k d)) (Fin.ext (by show 1092 + d.val = d.val + 1092; omega))
  rw [dif_neg h0]
  by_cases h1 : d.val - 512 < 512
  · rw [dif_pos h1, pack_head _ _ (by omega)]
    exact congrArg (fun d : Fin 3140 => w (ix2 k d)) (Fin.ext (by show 1604 + (d.val - 512) = d.val + 1092; omega))
  rw [dif_neg h1]
  by_cases h2 : d.val - 512 - 512 < 512
  · rw [dif_pos h2, pack_head _ _ (by omega)]
    exact congrArg (fun d : Fin 3140 => w (ix2 k d)) (Fin.ext (by show 2116 + (d.val - 512 - 512) = d.val + 1092; omega))
  rw [dif_neg h2]
  by_cases h3 : d.val - 512 - 512 - 512 < 512
  · rw [dif_pos h3, pack_head _ _ (by omega)]
    exact congrArg (fun d : Fin 3140 => w (ix2 k d)) (Fin.ext (by show 2628 + (d.val - 512 - 512 - 512) = d.val + 1092; omega))
  rw [dif_neg h3]
  by_cases h4 : d.val - 512 - 512 - 512 - 512 < 512
  · rw [dif_pos h4, pack_tail _ _ (by omega) (by omega)]
    exact congrArg (fun d : Fin 3140 => w (ix2 k d)) (Fin.ext (by show d.val - 512 - 512 - 512 - 512 = d.val - 2048; omega))
  rw [dif_neg h4]
  by_cases h5 : d.val - 512 - 512 - 512 - 512 - 512 < 128
  · rw [dif_pos h5, pack_tail _ _ (by omega) (by omega)]
    exact congrArg (fun d : Fin 3140 => w (ix2 k d)) (Fin.ext (by show 512 + (d.val - 512 - 512 - 512 - 512 - 512) = d.val - 2048; omega))
  rw [dif_neg h5]
  by_cases h6 : d.val - 512 - 512 - 512 - 512 - 512 - 128 < 128
  · rw [dif_pos h6, pack_tail _ _ (by omega) (by omega)]
    exact congrArg (fun d : Fin 3140 => w (ix2 k d)) (Fin.ext (by show 640 + (d.val - 512 - 512 - 512 - 512 - 512 - 128) = d.val - 2048; omega))
  rw [dif_neg h6]
  by_cases h7 : d.val - 512 - 512 - 512 - 512 - 512 - 128 - 128 < 256
  · rw [dif_pos h7, pack_tail _ _ (by omega) (by omega)]
    exact congrArg (fun d : Fin 3140 => w (ix2 k d)) (Fin.ext (by show 768 + (d.val - 512 - 512 - 512 - 512 - 512 - 128 - 128) = d.val - 2048; omega))
  rw [dif_neg h7]
  by_cases h8 : d.val - 512 - 512 - 512 - 512 - 512 - 128 - 128 - 256 < 64
  · rw [dif_pos h8, pack_tail _ _ (by omega) (by omega)]
    exact congrArg (fun d : Fin 3140 => w (ix2 k d)) (Fin.ext (by show 1024 + (d.val - 512 - 512 - 512 - 512 - 512 - 128 - 128 - 256) = d.val - 2048; omega))
  rw [dif_neg h8]
  by_cases h9 : d.val - 512 - 512 - 512 - 512 - 512 - 128 - 128 - 256 - 64 < 4
  · rw [dif_pos h9, pack_tail _ _ (by omega) (by omega)]
    exact congrArg (fun d : Fin 3140 => w (ix2 k d)) (Fin.ext (by show 1088 + (d.val - 512 - 512 - 512 - 512 - 512 - 128 - 128 - 256 - 64) = d.val - 2048; omega))
  rw [dif_neg h9]
  rw [pack_zero _ _ (by omega)]

/-- The weights' array is the reordered weights. -/
theorem weights_eq (c : Dev nD) :
    V m c main_v14 = truncf .bf16 (reordered (shapeCast S1024x3140 (m ((c.tc).loc main_arg3)) shapeCasts_S1x1024x3140_S1024x3140)) bitsLt_bf16_f32 := by
  unfold V
  after_reads_simp
  rfl

theorem plain_at (w : FVec Ideal S1x1024x3140 .f32) (k : Fin 1024) (d : Fin 3140) :
    shapeCast S1024x3140 w shapeCasts_S1x1024x3140_S1024x3140 (ix2 k d) = w (ix3 0 k d) := by
  pointwise

theorem narrowed_at (w : FVec Ideal S1x1024x3140 .f32) (k : Fin 1024) (d : Fin 3200) :
    truncf .bf16 (reordered (shapeCast S1024x3140 w shapeCasts_S1x1024x3140_S1024x3140)) bitsLt_bf16_f32 (ix2 k d) = pack (fun d => w (ix3 0 k d)) d := by
  refine (reordered_at _ k d).trans ?_
  simp only [plain_at]

/-- The weights' array, its columns packed. -/
theorem weights_at (c : Dev nD) (k : Fin 1024) (d : Fin 3200) :
    V m c main_v14 (ix2 k d) = pack (fun d => m ((c.tc).loc main_arg3) (ix3 0 k d)) d :=
  (congrFun (weights_eq m c) (ix2 k d)).trans (narrowed_at (m ((c.tc).loc main_arg3)) k d)

end Cert.ProjectionIdeal.Value

end
-- ==== Proof.Projection.Array.lean ====
/-
  The result array of the projection's kernel at one row and column: point `t` writes rows `512 t` to `512 t + 511`, once.
-/
module

public import proofs.«01_k».proof.Proof.Projection.Host

@[expose] public section

set_option maxRecDepth 16384

noncomputable section

namespace Cert.ProjectionIdeal.Value

open Idealize.ShloMosaic Idealize.ShloMosaic.TcCoe Idealize.SL
open Cert.ProjectionIdeal Cert.ProjectionIdeal.Gen Cert.Proof.Projection

/-- The block a point leaves, at an index. -/
theorem payload_at (x : Vec Ideal S512x1024 .f32) (sc sh : Vec Ideal S1x1x1024 .f32) (w : Vec Ideal S1024x3200 .bf16) (r : Fin 512) (d : Fin 3200) :
    k0_pay1 x sc sh w (ix2 r d) = ∑ k : Fin 1024, modulated (x (ix2 r k)) (sc (ix3 0 0 k)) (sh (ix3 0 0 k)) * w (ix2 k d) := by
  open_payloads
  pointwise [modulated]

theorem out_eq (x : Vec Ideal S512x1024 .f32) (sc sh : Vec Ideal S1x1x1024 .f32) (w : Vec Ideal S1024x3200 .bf16) :
    out0_4 x sc sh w = k0_pay1 x sc sh w := by
  have h2 : (![0, 0] : Fin 2 → Nat) = fun _ => 0 := by decide
  have h3 : (![0, 0, 0] : Fin 3 → Nat) = fun _ => 0 := by decide
  unfold out0_4
  refine (View.canon_unit_zero h2 _ _).trans ?_
  rw [View.ld_unit_zero h2, View.ld_unit_zero h3, View.ld_unit_zero h3, View.ld_unit_zero h2]

variable (m : (ℓ : Loc nD τ sig) → Buf (Elt Ideal) ℓ)

/-- There are 64 grid points. -/
theorem point_lt (t : Fin cfg0.N) : t.val < 64 := Nat.lt_of_lt_of_eq t.isLt (by decide +kernel)

theorem block_0 (c : Dev nD) (t : Fin cfg0.N) (r : Fin 512) (k : Fin 1024) :
    iblk m c 0 t (ix2 r k) = V m c main_v0 (ix2 (⟨t.val * 512 + r.val, by have := point_lt t; omega⟩ : Fin 32768) k) := by
  have idx : ∀ t : Fin cfg0.N, win0_0.index t = ![t.val, 0] := by decide +kernel
  blk_simp [iblk, idx t]
  blk_ext [idx t]

theorem block_1 (c : Dev nD) (t : Fin cfg0.N) (k : Fin 1024) :
    iblk m c 1 t (ix3 0 0 k) = V m c main_arg1 (ix3 (⟨t.val / 8, by have := point_lt t; omega⟩ : Fin 8) 0 k) := by
  have idx : ∀ t : Fin cfg0.N, win0_1.index t = ![t.val / 8, 0, 0] := by decide +kernel
  blk_simp [iblk, idx t]
  blk_ext [idx t]

theorem block_2 (c : Dev nD) (t : Fin cfg0.N) (k : Fin 1024) :
    iblk m c 2 t (ix3 0 0 k) = V m c main_arg2 (ix3 (⟨t.val / 8, by have := point_lt t; omega⟩ : Fin 8) 0 k) := by
  have idx : ∀ t : Fin cfg0.N, win0_2.index t = ![t.val / 8, 0, 0] := by decide +kernel
  blk_simp [iblk, idx t]
  blk_ext [idx t]

theorem block_3 (c : Dev nD) (t : Fin cfg0.N) (k : Fin 1024) (d : Fin 3200) : iblk m c 3 t (ix2 k d) = V m c main_v14 (ix2 k d) := by
  have idx : ∀ t : Fin cfg0.N, win0_3.index t = ![0, 0] := by decide +kernel
  blk_simp [iblk, idx t]
  blk_ext [idx t]

/-- The block a point leaves, at an index, from the arguments. -/
theorem out_at (c : Dev nD) (t : Fin cfg0.N) (R : Fin 32768) (d : Fin 3200) (ht : t.val = R.val / 512) :
    out0_4 (iblk m c 0 t) (iblk m c 1 t) (iblk m c 2 t) (iblk m c 3 t) (ix2 (⟨R.val % 512, by omega⟩ : Fin 512) d)
      = packed (fun b l k => m ((c.tc : Thread nD τ).loc main_arg0) (ix3 b l k)) (fun b k => m ((c.tc : Thread nD τ).loc main_arg1) (ix3 b 0 k))
          (fun b k => m ((c.tc : Thread nD τ).loc main_arg2) (ix3 b 0 k)) (fun k d => m ((c.tc : Thread nD τ).loc main_arg3) (ix3 0 k d)) R d := by
  have e0 : ∀ k : Fin 1024, iblk m c 0 t (ix2 (⟨R.val % 512, by omega⟩ : Fin 512) k)
      = m ((c.tc : Thread nD τ).loc main_arg0) (ix3 (⟨R.val / 4096, by omega⟩ : Fin 8) (⟨R.val % 4096, by omega⟩ : Fin 4096) k) := by
    intro k
    have er : (⟨t.val * 512 + R.val % 512, by have := point_lt t; omega⟩ : Fin 32768) = R := Fin.ext (by show t.val * 512 + R.val % 512 = R.val; omega)
    exact (block_0 m c t _ k).trans ((congrArg (fun r : Fin 32768 => V m c main_v0 (ix2 r k)) er).trans (tokens_at m c R k))
  have eb : (⟨t.val / 8, by have := point_lt t; omega⟩ : Fin 8) = ⟨R.val / 4096, by omega⟩ := Fin.ext (by show t.val / 8 = R.val / 4096; omega)
  have e1 : ∀ k : Fin 1024, iblk m c 1 t (ix3 0 0 k) = m ((c.tc : Thread nD τ).loc main_arg1) (ix3 (⟨R.val / 4096, by omega⟩ : Fin 8) 0 k) := fun k =>
    (block_1 m c t k).trans ((congrArg (fun b : Fin 8 => V m c main_arg1 (ix3 b 0 k)) eb).trans (congrFun (V_main_arg1 m c) _))
  have e2 : ∀ k : Fin 1024, iblk m c 2 t (ix3 0 0 k) = m ((c.tc : Thread nD τ).loc main_arg2) (ix3 (⟨R.val / 4096, by omega⟩ : Fin 8) 0 k) := fun k =>
    (block_2 m c t k).trans ((congrArg (fun b : Fin 8 => V m c main_arg2 (ix3 b 0 k)) eb).trans (congrFun (V_main_arg2 m c) _))
  have e3 : ∀ k : Fin 1024, iblk m c 3 t (ix2 k d) = pack (fun d => m ((c.tc : Thread nD τ).loc main_arg3) (ix3 0 k d)) d := fun k =>
    (block_3 m c t k d).trans (weights_at m c k d)
  refine (congrFun (out_eq _ _ _ _) _).trans ((payload_at _ _ _ _ _ d).trans ?_)
  refine Eq.trans ?_ (sum_pack _ _ d)
  refine Finset.sum_congr rfl fun k _ => ?_
  exact congrArg₂ (· * ·) (by rw [e0, e1, e2]) (e3 k)

/-- The result array at row `R`, column `d`. -/
theorem kernel_at (c : Dev nD) (R : Fin 32768) (d : Fin 3200) :
    (dats m 0 c).arrAt 4 cfg0.N (ix2 R d)
      = packed (fun b l k => m ((c.tc : Thread nD τ).loc main_arg0) (ix3 b l k)) (fun b k => m ((c.tc : Thread nD τ).loc main_arg1) (ix3 b 0 k))
          (fun b k => m ((c.tc : Thread nD τ).loc main_arg2) (ix3 b 0 k)) (fun k d => m ((c.tc : Thread nD τ).loc main_arg3) (ix3 0 k d)) R d := by
  have hN : cfg0.N = 64 := by decide +kernel
  let t : Fin cfg0.N := ⟨R.val / 512, by omega⟩
  have idx : ∀ t : Fin cfg0.N, win0_4.index t = ![t.val, 0] := by decide +kernel
  have fl : ∀ t : Fin cfg0.N, (cfg0.win 4).flush t = true := by decide +kernel
  have hb := congrFun (blocks4 m c t (fl t)) (ix2 (⟨R.val % 512, by omega⟩ : Fin 512) d)
  have he : ((cfg0.win 4).blk t).view.emb (ix2 (⟨R.val % 512, by omega⟩ : Fin 512) d) = (ix2 R d : S32768x3200.Idx) := by
    blk_ext [idx t]
    show R.val / 512 * 512 + R.val % 512 = R.val
    omega
  rw [flushed4] at hb
  generalize (dats m 0 c).arrAt 4 cfg0.N = G at hb ⊢
  refine (congrArg G he).symm.trans (hb.trans ?_)
  exact out_at m c t R d rfl

end Cert.ProjectionIdeal.Value

end
-- ==== Proof.Projection.RefOut.lean ====
/-
  The input projection's reference at one row and column, in stages: the scaled and shifted tokens, the product, and the columns in
  the order the kernel writes them.
-/
module

public import proofs.«01_k».proof.Proof.Gen.ProjectionReferenceIdeal.Run
public import proofs.«01_k».proof.Proof.Projection.Model

@[expose] public section

set_option maxRecDepth 16384

noncomputable section

namespace Cert.ProjectionReferenceIdeal.Value

open Idealize.ShloMosaic Idealize.ShloMosaic.TcCoe
open Cert.ProjectionReferenceIdeal Cert.ProjectionReferenceIdeal.Gen Cert.Proof.Projection

/-- The tokens, scaled and shifted. -/
def scaled (x : FVec Ideal S8x4096x1024 .f32) (sc sh : FVec Ideal S8x1x1024 .f32) : FVec Ideal S8x4096x1024 .f32 :=
  addf (mulf x (broadcastInDim S8x4096x1024 ![0, 1, 2] bcast_S8x1x1024_S8x4096x1024_0_1_2 (addf (broadcastInDim S8x1x1024 ![] bcast_S_S8x1x1024 (constant S_ .f32 0x3F800000#32)) sc))) (broadcastInDim S8x4096x1024 ![0, 1, 2] bcast_S8x1x1024_S8x4096x1024_0_1_2 sh)

/-- The product with the weights. -/
def product (x : FVec Ideal S8x4096x1024 .f32) (sc sh : FVec Ideal S8x1x1024 .f32) (w : FVec Ideal S1x1024x3140 .f32) : FVec Ideal S8x4096x3140 .f32 :=
  Host.dotGeneral dot_S8x4096x1024_S1024x3140_S8x4096x3140_2_0_01_1_n_n none (scaled x sc sh) (shapeCast _ w shapeCasts_S1x1024x3140_S1024x3140)

/-- The columns in the order the kernel writes them, and zeros after them. -/
def reordered (y : FVec Ideal S8x4096x3140 .f32) : FVec Ideal S8x4096x3200 .f32 :=
  (concatenate S8x4096x3200 2 [⟨S8x4096x512, ((extractStridedSlice S8x4096x512 ![0, 0, 1092] y slices_S8x4096x3140_S8x4096x512_0_0_1092) : (⟨S8x4096x512, .f32⟩ : BufTy).Contents (Elt Ideal))⟩,
    ⟨S8x4096x512, ((extractStridedSlice S8x4096x512 ![0, 0, 1604] y slices_S8x4096x3140_S8x4096x512_0_0_1604) : (⟨S8x4096x512, .f32⟩ : BufTy).Contents (Elt Ideal))⟩,
    ⟨S8x4096x512, ((extractStridedSlice S8x4096x512 ![0, 0, 2116] y slices_S8x4096x3140_S8x4096x512_0_0_2116) : (⟨S8x4096x512, .f32⟩ : BufTy).Contents (Elt Ideal))⟩,
    ⟨S8x4096x512, ((extractStridedSlice S8x4096x512 ![0, 0, 2628] y slices_S8x4096x3140_S8x4096x512_0_0_2628) : (⟨S8x4096x512, .f32⟩ : BufTy).Contents (Elt Ideal))⟩,
    ⟨S8x4096x512, ((extractStridedSlice S8x4096x512 ![0, 0, 0] y slices_S8x4096x3140_S8x4096x512_0_0_0) : (⟨S8x4096x512, .f32⟩ : BufTy).Contents (Elt Ideal))⟩,
    ⟨S8x4096x128, ((extractStridedSlice S8x4096x128 ![0, 0, 512] y slices_S8x4096x3140_S8x4096x128_0_0_512) : (⟨S8x4096x128, .f32⟩ : BufTy).Contents (Elt Ideal))⟩,
    ⟨S8x4096x128, ((extractStridedSlice S8x4096x128 ![0, 0, 640] y slices_S8x4096x3140_S8x4096x128_0_0_640) : (⟨S8x4096x128, .f32⟩ : BufTy).Contents (Elt Ideal))⟩,
    ⟨S8x4096x256, ((extractStridedSlice S8x4096x256 ![0, 0, 768] y slices_S8x4096x3140_S8x4096x256_0_0_768) : (⟨S8x4096x256, .f32⟩ : BufTy).Contents (Elt Ideal))⟩,
    ⟨S8x4096x64, ((extractStridedSlice S8x4096x64 ![0, 0, 1024] y slices_S8x4096x3140_S8x4096x64_0_0_1024) : (⟨S8x4096x64, .f32⟩ : BufTy).Contents (Elt Ideal))⟩,
    ⟨S8x4096x4, ((extractStridedSlice S8x4096x4 ![0, 0, 1088] y slices_S8x4096x3140_S8x4096x4_0_0_1088) : (⟨S8x4096x4, .f32⟩ : BufTy).Contents (Elt Ideal))⟩,
    ⟨S8x4096x60, ((broadcastInDim S8x4096x60 ![] bcast_S_S8x4096x60 (constant S_ .f32 0x00000000#32 : FVec Ideal S_ .f32)) : (⟨S8x4096x60, .f32⟩ : BufTy).Contents (Elt Ideal))⟩] concatenates_S8x4096x512_S8x4096x512_S8x4096x512_S8x4096x512_S8x4096x512_S8x4096x128_S8x4096x128_S8x4096x256_S8x4096x64_S8x4096x4_S8x4096x60_S8x4096x3200_d2 : (⟨S8x4096x3200, .f32⟩ : BufTy).Contents (Elt Ideal))

theorem scaled_at (x : FVec Ideal S8x4096x1024 .f32) (sc sh : FVec Ideal S8x1x1024 .f32) (b : Fin 8) (l : Fin 4096) (k : Fin 1024) :
    scaled x sc sh (ix3 b l k) = modulated (x (ix3 b l k)) (sc (ix3 b 0 k)) (sh (ix3 b 0 k)) := by
  unfold scaled
  pointwise [modulated]

theorem product_at (x : FVec Ideal S8x4096x1024 .f32) (sc sh : FVec Ideal S8x1x1024 .f32) (w : FVec Ideal S1x1024x3140 .f32) (b : Fin 8) (l : Fin 4096)
    (d : Fin 3140) :
    product x sc sh w (ix3 b l d) = ∑ k : Fin 1024, scaled x sc sh (ix3 b l k) * w (ix3 0 k d) := by
  unfold product
  pointwise

theorem reordered_at (y : FVec Ideal S8x4096x3140 .f32) (b : Fin 8) (l : Fin 4096) (d : Fin 3200) :
    reordered y (ix3 b l d) = pack (fun d => y (ix3 b l d)) d := by
  unfold reordered
  pointwise
  by_cases h0 : d.val < 512
  · rw [dif_pos h0, pack_head _ _ (by omega)]
    exact congrArg (fun d : Fin 3140 => y (ix3 b l d)) (Fin.ext (by show 1092 + d.val = d.val + 1092; omega))
  rw [dif_neg h0]
  by_cases h1 : d.val - 512 < 512
  · rw [dif_pos h1, pack_head _ _ (by omega)]
    exact congrArg (fun d : Fin 3140 => y (ix3 b l d)) (Fin.ext (by show 1604 + (d.val - 512) = d.val + 1092; omega))
  rw [dif_neg h1]
  by_cases h2 : d.val - 512 - 512 < 512
  · rw [dif_pos h2, pack_head _ _ (by omega)]
    exact congrArg (fun d : Fin 3140 => y (ix3 b l d)) (Fin.ext (by show 2116 + (d.val - 512 - 512) = d.val + 1092; omega))
  rw [dif_neg h2]
  by_cases h3 : d.val - 512 - 512 - 512 < 512
  · rw [dif_pos h3, pack_head _ _ (by omega)]
    exact congrArg (fun d : Fin 3140 => y (ix3 b l d)) (Fin.ext (by show 2628 + (d.val - 512 - 512 - 512) = d.val + 1092; omega))
  rw [dif_neg h3]
  by_cases h4 : d.val - 512 - 512 - 512 - 512 < 512
  · rw [dif_pos h4, pack_tail _ _ (by omega) (by omega)]
    exact congrArg (fun d : Fin 3140 => y (ix3 b l d)) (Fin.ext (by show d.val - 512 - 512 - 512 - 512 = d.val - 2048; omega))
  rw [dif_neg h4]
  by_cases h5 : d.val - 512 - 512 - 512 - 512 - 512 < 128
  · rw [dif_pos h5, pack_tail _ _ (by omega) (by omega)]
    exact congrArg (fun d : Fin 3140 => y (ix3 b l d)) (Fin.ext (by show 512 + (d.val - 512 - 512 - 512 - 512 - 512) = d.val - 2048; omega))
  rw [dif_neg h5]
  by_cases h6 : d.val - 512 - 512 - 512 - 512 - 512 - 128 < 128
  · rw [dif_pos h6, pack_tail _ _ (by omega) (by omega)]
    exact congrArg (fun d : Fin 3140 => y (ix3 b l d)) (Fin.ext (by show 640 + (d.val - 512 - 512 - 512 - 512 - 512 - 128) = d.val - 2048; omega))
  rw [dif_neg h6]
  by_cases h7 : d.val - 512 - 512 - 512 - 512 - 512 - 128 - 128 < 256
  · rw [dif_pos h7, pack_tail _ _ (by omega) (by omega)]
    exact congrArg (fun d : Fin 3140 => y (ix3 b l d)) (Fin.ext (by show 768 + (d.val - 512 - 512 - 512 - 512 - 512 - 128 - 128) = d.val - 2048; omega))
  rw [dif_neg h7]
  by_cases h8 : d.val - 512 - 512 - 512 - 512 - 512 - 128 - 128 - 256 < 64
  · rw [dif_pos h8, pack_tail _ _ (by omega) (by omega)]
    exact congrArg (fun d : Fin 3140 => y (ix3 b l d)) (Fin.ext (by show 1024 + (d.val - 512 - 512 - 512 - 512 - 512 - 128 - 128 - 256) = d.val - 2048; omega))
  rw [dif_neg h8]
  by_cases h9 : d.val - 512 - 512 - 512 - 512 - 512 - 128 - 128 - 256 - 64 < 4
  · rw [dif_pos h9, pack_tail _ _ (by omega) (by omega)]
    exact congrArg (fun d : Fin 3140 => y (ix3 b l d)) (Fin.ext (by show 1088 + (d.val - 512 - 512 - 512 - 512 - 512 - 128 - 128 - 256 - 64) = d.val - 2048; omega))
  rw [dif_neg h9]
  rw [pack_zero _ _ (by omega)]

/-- The sequences laid end to end: the last reshape. -/
theorem rows_at (y : FVec Ideal S8x4096x3200 .f32) (R : Fin 32768) (d : Fin 3200) :
    shapeCast S32768x3200 y shapeCasts_S8x4096x3200_S32768x3200 (ix2 R d)
      = y (ix3 (⟨R.val / 4096, by omega⟩ : Fin 8) (⟨R.val % 4096, by omega⟩ : Fin 4096) d) := by
  pointwise

variable (m : (ℓ : Loc nD τ sig) → Buf (Elt Ideal) ℓ) (c : Dev nD)

/-- The result, in its stages. -/
theorem staged : res_main_v20 m c = shapeCast S32768x3200 (reordered (product (m ((c.tc : Thread nD τ).loc main_arg0)) (m ((c.tc : Thread nD τ).loc main_arg1))
    (m ((c.tc : Thread nD τ).loc main_arg2)) (m ((c.tc : Thread nD τ).loc main_arg3)))) shapeCasts_S8x4096x3200_S32768x3200 := by
  unfold res_main_v20 reordered product scaled
  rfl

/-- The result at row `R`, column `d`. -/
theorem result_at (R : Fin 32768) (d : Fin 3200) :
    res_main_v20 m c (ix2 R d)
      = packed (fun b l k => m ((c.tc : Thread nD τ).loc main_arg0) (ix3 b l k)) (fun b k => m ((c.tc : Thread nD τ).loc main_arg1) (ix3 b 0 k))
          (fun b k => m ((c.tc : Thread nD τ).loc main_arg2) (ix3 b 0 k)) (fun k d => m ((c.tc : Thread nD τ).loc main_arg3) (ix3 0 k d)) R d := by
  rw [staged, rows_at, reordered_at]
  unfold packed
  simp only [product_at, scaled_at]

end Cert.ProjectionReferenceIdeal.Value

end
-- ==== Proof.Projection.Tie.lean ====
/-
  The projection's kernel and reference leave the same array.
-/
module

public import proofs.«01_k».proof.Proof.Projection.Array
public import proofs.«01_k».proof.Proof.Projection.RefOut

@[expose] public section

set_option maxRecDepth 16384

noncomputable section

namespace Cert.ProjectionIdeal.Value

open Idealize.ShloMosaic Idealize.ShloMosaic.TcCoe Idealize.SL
open Cert.ProjectionIdeal Cert.ProjectionIdeal.Gen Cert.Proof.Projection

variable (m : (ℓ : Loc nD τ sig) → Buf (Elt Ideal) ℓ)

/-- From memories that agree on the arguments, the reference's result is the kernel's array. -/
theorem tie (c : Dev nD)
    (m' : (ℓ : Loc Cert.ProjectionReferenceIdeal.nD Cert.ProjectionReferenceIdeal.τ Cert.ProjectionReferenceIdeal.sig) → Buf (Elt Ideal) ℓ)
    (h0 : m' ((c.tc : Thread Cert.ProjectionReferenceIdeal.nD Cert.ProjectionReferenceIdeal.τ).loc Cert.ProjectionReferenceIdeal.main_arg0) = m ((c.tc : Thread nD τ).loc main_arg0))
    (h1 : m' ((c.tc : Thread Cert.ProjectionReferenceIdeal.nD Cert.ProjectionReferenceIdeal.τ).loc Cert.ProjectionReferenceIdeal.main_arg1) = m ((c.tc : Thread nD τ).loc main_arg1))
    (h2 : m' ((c.tc : Thread Cert.ProjectionReferenceIdeal.nD Cert.ProjectionReferenceIdeal.τ).loc Cert.ProjectionReferenceIdeal.main_arg2) = m ((c.tc : Thread nD τ).loc main_arg2))
    (h3 : m' ((c.tc : Thread Cert.ProjectionReferenceIdeal.nD Cert.ProjectionReferenceIdeal.τ).loc Cert.ProjectionReferenceIdeal.main_arg3) = m ((c.tc : Thread nD τ).loc main_arg3)) :
    Cert.ProjectionReferenceIdeal.Value.res_main_v20 m' c = (dats m 0 c).arrAt 4 cfg0.N := by
  funext y
  revert y
  intro (y : S32768x3200.Idx)
  obtain ⟨R, d, rfl⟩ : ∃ (R : Fin 32768) (d : Fin 3200), y = ix2 R d := ⟨y 0, y 1, by idx_vars y⟩
  refine (Cert.ProjectionReferenceIdeal.Value.result_at m' c R d).trans (Eq.trans ?_ (kernel_at m c R d).symm)
  rw [h0, h1, h2, h3]

end Cert.ProjectionIdeal.Value

end
-- ==== Proof.lean ====
module

public import proofs.«01_k».proof.Defs
public import proofs.«01_k».proof.Proof.Gen.Kernel.Frame
public import proofs.«01_k».proof.Proof.Gen.KernelIdeal.Value
public import proofs.«01_k».proof.Proof.Ret.Tie
public import proofs.«01_k».proof.Proof.Experts.Routed
public import proofs.«01_k».proof.Proof.Experts.Tie
public import proofs.«01_k».proof.Proof.ExpertsBits.Frame
public import proofs.«01_k».proof.Proof.ExpertsBits.Chosen
public import proofs.«01_k».proof.Proof.Gen.Projection.Frame
public import proofs.«01_k».proof.Proof.Projection.Tie
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.RetRun.run m ρ)

theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨(h c).1.trans ?_, (h c).2⟩) (Cert.ReferenceIdeal.RetRun.run m' ρ')
  obtain ⟨h0, h1, h2, h3, h4⟩ := hagree c
  rw [h0, h1, h2, h3, h4]
  exact Ret.tie m c

/-- The precondition, of the words the kernel's launch reads. -/
theorem routed_bits {m} (h : Pre_Experts m) :
    (∀ k : Fin 288, (Cert.Experts.Run.expert m k).toNat < 32) ∧ 1 ≤ (Cert.Experts.Run.count m).toInt := Routed.words (h 0)

theorem routed_ideal {m} (h : Pre_ExpertsIdeal m) :
    (∀ k : Fin 288, (Cert.ExpertsIdeal.Run.expert m k).toNat < 32) ∧ 1 ≤ (Cert.ExpertsIdeal.Run.count m).toInt := Routed.words (h 0)

theorem quiescent_Experts : quiescent_Experts := fun m ρ h =>
  Cert.Experts.Run.frame m ρ (Cert.Experts.Run.ok_of m (routed_bits h).1 (routed_bits h).2)

theorem quiescent_ExpertsIdeal : quiescent_ExpertsIdeal := fun m ρ h =>
  Cert.ExpertsIdeal.Run.frame m ρ (Cert.ExpertsIdeal.Run.ok_of m (routed_ideal h).1 (routed_ideal h).2)

theorem quiescent_ExpertsReferenceIdeal : quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run m ρ)

theorem algebraic_ExpertsIdeal_ExpertsReferenceIdeal : algebraic_ExpertsIdeal_ExpertsReferenceIdeal := by
  intro m ρ m' ρ' hpre hagree
  obtain ⟨hb, hn⟩ := routed_ideal hpre
  refine ⟨_, Cert.ExpertsIdeal.Run.run_result m ρ (Cert.ExpertsIdeal.Run.ok_of m hb hn), ?_⟩
  refine (θ_run Cert.ExpertsReferenceIdeal.defs _ _).mono (fun _ h c => ⟨(h c).1.trans ?_, (h c).2⟩) (Cert.ExpertsReferenceIdeal.Value.run m' ρ')
  obtain ⟨h0, h1, h2, h3, h4, h5, h6⟩ := hagree c
  exact Cert.ExpertsIdeal.Run.tie m _ hb hn c m' h0 h1 h2 h3 h4 h5 h6

theorem quiescent_ProjectionReferenceIdeal : quiescent_ProjectionReferenceIdeal := fun m ρ _ =>
  (θ_run Cert.ProjectionReferenceIdeal.defs _ _).mono (fun r h => ⟨fun c => (h c).2, sem_eq_zero_of_no_sems (by decide) r.2⟩)
    (Cert.ProjectionReferenceIdeal.Value.run m ρ)

theorem algebraic_ProjectionIdeal_ProjectionReferenceIdeal : algebraic_ProjectionIdeal_ProjectionReferenceIdeal := by
  intro m ρ m' ρ' _ hagree
  refine ⟨_, Cert.ProjectionIdeal.Value.run_blocks (F := Ideal) m ρ, ?_⟩
  refine (θ_run Cert.ProjectionReferenceIdeal.defs _ _).mono (fun _ h c => ⟨(h c).1.trans ?_, (h c).2⟩) (Cert.ProjectionReferenceIdeal.Value.run m' ρ')
  obtain ⟨h0, h1, h2, h3⟩ := hagree c
  exact Cert.ProjectionIdeal.Value.tie m c m' h0 h1 h2 h3

theorem claim : Cert.Claim := ⟨Cert.Kernel.Gen.facts, Cert.KernelIdeal.Gen.facts, Cert.ReferenceIdeal.Gen.facts, Cert.Experts.Gen.facts, Cert.ExpertsIdeal.Gen.facts,
  Cert.ExpertsReferenceIdeal.Gen.facts, Cert.Projection.Gen.facts, Cert.ProjectionIdeal.Gen.facts, Cert.ProjectionReferenceIdeal.Gen.facts, Cert.Pre_routed.Gen.facts,
  fun m ρ _ => Cert.Kernel.Gen.frame m ρ, fun m ρ _ => Cert.KernelIdeal.Gen.frame m ρ, quiescent_ReferenceIdeal,
  quiescent_Experts, quiescent_ExpertsIdeal, quiescent_ExpertsReferenceIdeal, fun m ρ _ => quiescent_ExpertsReferenceIdeal m ρ trivial,
  fun m ρ _ => Cert.Projection.Gen.frame m ρ, fun m ρ _ => Cert.ProjectionIdeal.Gen.frame m ρ, quiescent_ProjectionReferenceIdeal,
  (trivial : preserves_Kernel_KernelIdeal), algebraic_KernelIdeal_ReferenceIdeal,
  (trivial : preserves_Experts_ExpertsIdeal), algebraic_ExpertsIdeal_ExpertsReferenceIdeal,
  (trivial : preserves_Projection_ProjectionIdeal), algebraic_ProjectionIdeal_ProjectionReferenceIdeal⟩

end Cert.Proof

end
